-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 64]⟩ ⟨2, ![1024, 64]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 64]⟩ ⟨2, ![1024, 64]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x64 : Shape := ⟨2, ![128, 64]⟩
abbrev S1024x64 : Shape := ⟨2, ![1024, 64]⟩
abbrev S7 : Shape := ⟨1, ![7]⟩
abbrev S8 : Shape := ⟨1, ![8]⟩
abbrev S_ : Shape := ⟨0, ![]⟩
abbrev S64x64 : Shape := ⟨2, ![64, 64]⟩
abbrev S64x128 : Shape := ⟨2, ![64, 128]⟩
abbrev S1 : Shape := ⟨1, ![1]⟩
abbrev S256x64 : Shape := ⟨2, ![256, 64]⟩
abbrev S128x128 : Shape := ⟨2, ![128, 128]⟩
abbrev S512x64 : Shape := ⟨2, ![512, 64]⟩
abbrev S256x128 : Shape := ⟨2, ![256, 128]⟩
abbrev S512x128 : Shape := ⟨2, ![512, 128]⟩

abbrev nBuf : Space → Nat
  | .hbm => 2
  | .vmem => 4
  | .smem => 0
  | _ => 0

abbrev bufTy : (tb : Table) → Fin (tcTables nBuf tb) → BufTy
  | .hbm, ⟨0, _⟩ => ⟨S128x64, .bf16⟩
  | .hbm, ⟨1, _⟩ => ⟨S128x64, .f32⟩
  | .local _ .vmem, ⟨0, _⟩ => ⟨S128x64, .bf16⟩
  | .local _ .vmem, ⟨1, _⟩ => ⟨S128x64, .f32⟩
  | .local _ .vmem, ⟨2, _⟩ => ⟨S1024x64, .bf16⟩
  | .local _ .vmem, ⟨3, _⟩ => ⟨S128x64, .bf16⟩
  | _, _ => ⟨S128x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_225 : BitVec 32 := 128#32
  let v514 : BitVec 32 := Scalar.muli v2 c128_i32_225
  let v515 : Index := Scalar.indexCast v514
  let c0_226 : Index := 0#32
  ![v515.toNat, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_230 : BitVec 32 := 128#32
  let v522 : BitVec 32 := Scalar.muli v2 c128_i32_230
  let c0_i32_235 : BitVec 32 := 0#32
  ![v522.toNat, 0]
def k0_dev8 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_231 : BitVec 32 := 1#32
  let v523 : BitVec 32 := Scalar.xori v2 c1_i32_231
  let c1_i32_233 : BitVec 32 := 1#32
  let v524 : BitVec 32 := Scalar.muli v523 c1_i32_233
  let v525 : BitVec 32 := Scalar.addi c0_i32_234 v524
  v525.toNat
def k0_dev9 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_236 : BitVec 32 := 2#32
  let v531 : BitVec 32 := Scalar.xori v2 c2_i32_236
  let c1_i32_238 : BitVec 32 := 1#32
  let v532 : BitVec 32 := Scalar.muli v531 c1_i32_238
  let v533 : BitVec 32 := Scalar.addi c0_i32_239 v532
  v533.toNat
def k0_dev10 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_241 : BitVec 32 := 3#32
  let v539 : BitVec 32 := Scalar.xori v2 c3_i32_241
  let c1_i32_243 : BitVec 32 := 1#32
  let v540 : BitVec 32 := Scalar.muli v539 c1_i32_243
  let v541 : BitVec 32 := Scalar.addi c0_i32_244 v540
  v541.toNat
def k0_dev11 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_246 : BitVec 32 := 4#32
  let v547 : BitVec 32 := Scalar.xori v2 c4_i32_246
  let c1_i32_248 : BitVec 32 := 1#32
  let v548 : BitVec 32 := Scalar.muli v547 c1_i32_248
  let v549 : BitVec 32 := Scalar.addi c0_i32_249 v548
  v549.toNat
def k0_dev12 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_251 : BitVec 32 := 5#32
  let v555 : BitVec 32 := Scalar.xori v2 c5_i32_251
  let c1_i32_253 : BitVec 32 := 1#32
  let v556 : BitVec 32 := Scalar.muli v555 c1_i32_253
  let v557 : BitVec 32 := Scalar.addi c0_i32_254 v556
  v557.toNat
def k0_dev13 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_256 : BitVec 32 := 6#32
  let v563 : BitVec 32 := Scalar.xori v2 c6_i32_256
  let c1_i32_258 : BitVec 32 := 1#32
  let v564 : BitVec 32 := Scalar.muli v563 c1_i32_258
  let v565 : BitVec 32 := Scalar.addi c0_i32_259 v564
  v565.toNat
def k0_dev14 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_261 : BitVec 32 := 7#32
  let v571 : BitVec 32 := Scalar.xori v2 c7_i32_261
  let c1_i32_263 : BitVec 32 := 1#32
  let v572 : BitVec 32 := Scalar.muli v571 c1_i32_263
  let v573 : BitVec 32 := Scalar.addi c0_i32_264 v572
  v573.toNat
def k0_off4 (d0 : Dev nD) (c1_i32_280 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v613 : BitVec 32 := Scalar.xori v2 c1_i32_280
  ![v613.toNat]
def k0_off5 (d0 : Dev nD) (c1_i32_280 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v613 : BitVec 32 := Scalar.xori v2 c1_i32_280
  let c128_i32_281 : BitVec 32 := 128#32
  let v614 : BitVec 32 := Scalar.muli v613 c128_i32_281
  let c0_i32_285 : BitVec 32 := 0#32
  ![v614.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_267 : BitVec 32 := 0#32
  let v580 : BitVec 1 := Scalar.cmpi .sgt v2 c0_i32_267
  let v581 : BitVec 32 := Scalar.extui v580
  let c0_i32_268 : BitVec 32 := 0#32
  let v582 : BitVec 1 := Scalar.cmpi .slt v2 c0_i32_268
  let v583 : BitVec 32 := Scalar.extui v582
  let v584 : BitVec 32 := Scalar.subi v581 v583
  let c2_i32_266 : BitVec 32 := 2#32
  let c0_i32_269 : BitVec 32 := 0#32
  let v585 : BitVec 1 := Scalar.cmpi .sgt c2_i32_266 c0_i32_269
  let v586 : BitVec 32 := Scalar.extui v585
  let c0_i32_270 : BitVec 32 := 0#32
  let v587 : BitVec 1 := Scalar.cmpi .slt c2_i32_266 c0_i32_270
  let v588 : BitVec 32 := Scalar.extui v587
  let v589 : BitVec 32 := Scalar.subi v586 v588
  let v590 : BitVec 1 := Scalar.cmpi .ne v584 v589
  let v591 : BitVec 32 := Scalar.remsi v2 c2_i32_266
  let c0_i32_271 : BitVec 32 := 0#32
  let v592 : BitVec 1 := Scalar.cmpi .ne v591 c0_i32_271
  let v593 : BitVec 1 := Scalar.andi v590 v592
  let v579 : BitVec 32 := Scalar.divsi v2 c2_i32_266
  let c1_i32_272 : BitVec 32 := 1#32
  let v594 : BitVec 32 := Scalar.subi v579 c1_i32_272
  let v595 : BitVec 32 := Scalar.select v593 v594 v579
  let c256_i32 : BitVec 32 := 256#32
  let v620 : BitVec 32 := Scalar.muli v595 c256_i32
  let v621 : Index := Scalar.indexCast v620
  let c0_286 : Index := 0#32
  ![v621.toNat, 0]
def k0_off7 (d0 : Dev nD) (c1_i32_338 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_267 : BitVec 32 := 0#32
  let v580 : BitVec 1 := Scalar.cmpi .sgt v2 c0_i32_267
  let v581 : BitVec 32 := Scalar.extui v580
  let c0_i32_268 : BitVec 32 := 0#32
  let v582 : BitVec 1 := Scalar.cmpi .slt v2 c0_i32_268
  let v583 : BitVec 32 := Scalar.extui v582
  let v584 : BitVec 32 := Scalar.subi v581 v583
  let c2_i32_266 : BitVec 32 := 2#32
  let c0_i32_269 : BitVec 32 := 0#32
  let v585 : BitVec 1 := Scalar.cmpi .sgt c2_i32_266 c0_i32_269
  let v586 : BitVec 32 := Scalar.extui v585
  let c0_i32_270 : BitVec 32 := 0#32
  let v587 : BitVec 1 := Scalar.cmpi .slt c2_i32_266 c0_i32_270
  let v588 : BitVec 32 := Scalar.extui v587
  let v589 : BitVec 32 := Scalar.subi v586 v588
  let v590 : BitVec 1 := Scalar.cmpi .ne v584 v589
  let v591 : BitVec 32 := Scalar.remsi v2 c2_i32_266
  let c0_i32_271 : BitVec 32 := 0#32
  let v592 : BitVec 1 := Scalar.cmpi .ne v591 c0_i32_271
  let v593 : BitVec 1 := Scalar.andi v590 v592
  let v579 : BitVec 32 := Scalar.divsi v2 c2_i32_266
  let c1_i32_272 : BitVec 32 := 1#32
  let v594 : BitVec 32 := Scalar.subi v579 c1_i32_272
  let v595 : BitVec 32 := Scalar.select v593 v594 v579
  let v755 : BitVec 32 := Scalar.xori v595 c1_i32_338
  let c256_i32_339 : BitVec 32 := 256#32
  let v756 : BitVec 32 := Scalar.muli v755 c256_i32_339
  let v757 : Index := Scalar.indexCast v756
  let c0_340 : Index := 0#32
  ![v757.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_274 : BitVec 32 := 0#32
  let v597 : BitVec 1 := Scalar.cmpi .sgt v2 c0_i32_274
  let v598 : BitVec 32 := Scalar.extui v597
  let c0_i32_275 : BitVec 32 := 0#32
  let v599 : BitVec 1 := Scalar.cmpi .slt v2 c0_i32_275
  let v600 : BitVec 32 := Scalar.extui v599
  let v601 : BitVec 32 := Scalar.subi v598 v600
  let c4_i32_273 : BitVec 32 := 4#32
  let c0_i32_276 : BitVec 32 := 0#32
  let v602 : BitVec 1 := Scalar.cmpi .sgt c4_i32_273 c0_i32_276
  let v603 : BitVec 32 := Scalar.extui v602
  let c0_i32_277 : BitVec 32 := 0#32
  let v604 : BitVec 1 := Scalar.cmpi .slt c4_i32_273 c0_i32_277
  let v605 : BitVec 32 := Scalar.extui v604
  let v606 : BitVec 32 := Scalar.subi v603 v605
  let v607 : BitVec 1 := Scalar.cmpi .ne v601 v606
  let v608 : BitVec 32 := Scalar.remsi v2 c4_i32_273
  let c0_i32_278 : BitVec 32 := 0#32
  let v609 : BitVec 1 := Scalar.cmpi .ne v608 c0_i32_278
  let v610 : BitVec 1 := Scalar.andi v607 v609
  let v596 : BitVec 32 := Scalar.divsi v2 c4_i32_273
  let c1_i32_279 : BitVec 32 := 1#32
  let v611 : BitVec 32 := Scalar.subi v596 c1_i32_279
  let v612 : BitVec 32 := Scalar.select v610 v611 v596
  let c512_i32 : BitVec 32 := 512#32
  let v877 : BitVec 32 := Scalar.muli v612 c512_i32
  let v878 : Index := Scalar.indexCast v877
  let c0_386 : Index := 0#32
  ![v878.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_274 : BitVec 32 := 0#32
  let v597 : BitVec 1 := Scalar.cmpi .sgt v2 c0_i32_274
  let v598 : BitVec 32 := Scalar.extui v597
  let c0_i32_275 : BitVec 32 := 0#32
  let v599 : BitVec 1 := Scalar.cmpi .slt v2 c0_i32_275
  let v600 : BitVec 32 := Scalar.extui v599
  let v601 : BitVec 32 := Scalar.subi v598 v600
  let c4_i32_273 : BitVec 32 := 4#32
  let c0_i32_276 : BitVec 32 := 0#32
  let v602 : BitVec 1 := Scalar.cmpi .sgt c4_i32_273 c0_i32_276
  let v603 : BitVec 32 := Scalar.extui v602
  let c0_i32_277 : BitVec 32 := 0#32
  let v604 : BitVec 1 := Scalar.cmpi .slt c4_i32_273 c0_i32_277
  let v605 : BitVec 32 := Scalar.extui v604
  let v606 : BitVec 32 := Scalar.subi v603 v605
  let v607 : BitVec 1 := Scalar.cmpi .ne v601 v606
  let v608 : BitVec 32 := Scalar.remsi v2 c4_i32_273
  let c0_i32_278 : BitVec 32 := 0#32
  let v609 : BitVec 1 := Scalar.cmpi .ne v608 c0_i32_278
  let v610 : BitVec 1 := Scalar.andi v607 v609
  let v596 : BitVec 32 := Scalar.divsi v2 c4_i32_273
  let c1_i32_279 : BitVec 32 := 1#32
  let v611 : BitVec 32 := Scalar.subi v596 c1_i32_279
  let v612 : BitVec 32 := Scalar.select v610 v611 v596
  let c1_i32_550 : BitVec 32 := 1#32
  let v1282 : BitVec 32 := Scalar.xori v612 c1_i32_550
  let c512_i32_551 : BitVec 32 := 512#32
  let v1283 : BitVec 32 := Scalar.muli v1282 c512_i32_551
  let v1284 : Index := Scalar.indexCast v1283
  let c0_552 : Index := 0#32
  ![v1284.toNat, 0]
abbrev stage0_0 : Fin 1 → Memref sig .tc .vmem S128x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x64 : Shape := ⟨2, ![1024, 64]⟩

abbrev nBuf : Space → Nat
  | .hbm => 3
  | .vmem => 0
  | .smem => 0
  | _ => 0

abbrev bufTy : (tb : Table) → Fin (tcTables nBuf tb) → BufTy
  | .hbm, ⟨0, _⟩ => ⟨S1024x64, .bf16⟩
  | .hbm, ⟨1, _⟩ => ⟨S1024x64, .f32⟩
  | .hbm, ⟨2, _⟩ => ⟨S1024x64, .f32⟩
  | _, _ => ⟨S1024x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Stages.lean ====
/- The sorting network of the kernel, in the operations it is printed with: the stages over packed
   vectors (rows `0 … n-1` of a block in lanes `0 … 63`, rows `n … 2n-1` in lanes `64 … 127`), the
   sort of one device's 128 rows, and the merges of 256, 512 and 1024 rows. -/
module

public import Idealize.ShloMosaic.PureOps

@[expose] public section

noncomputable section

namespace Cert.Bitonic

open Idealize.ShloMosaic

/-- A packed block: `2 n` rows of 64 columns as `n` rows of 128 lanes. -/
abbrev Pk (n : Nat) : Shape := ⟨2, ![n, 128]⟩

/-- A block of `n` rows of 64 columns. -/
abbrev Blk (n : Nat) : Shape := ⟨2, ![n, 64]⟩

/-- Division of words rounding down. -/
def floorDiv (a b : BitVec 32) : BitVec 32 :=
  Scalar.select
    (Scalar.andi
      (Scalar.cmpi .ne
        (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- Remainder of words with the sign of the divisor. -/
def floorMod (a b : BitVec 32) : BitVec 32 :=
  Scalar.select
    (Scalar.andi (Scalar.xori (Scalar.cmpi .slt (Scalar.remsi a b) 0#32) (Scalar.cmpi .slt b 0#32))
      (Scalar.cmpi .ne (Scalar.remsi a b) 0#32))
    (Scalar.addi (Scalar.remsi a b) b) (Scalar.remsi a b)

/-- Whether a device's word is even: the direction of its local sort. -/
def evenBit (w : BitVec 32) : BitVec 1 := Scalar.cmpi .eq (floorMod w 2#32) 0#32

section Defs

variable {n : Nat}

/-- Each packed element's row number, plus `b`: the second half of the lanes holds the rows from `m`. -/
def rowWords (n : Nat) (h0 : (Pk n).Iotas .tc 32 [0]) (h1 : (Pk n).Iotas .tc 32 [1]) (m b : BitVec 32) :
    IVec (Pk n) 32 :=
  addi (addi (iota .tc (Pk n) 32 [0] h0)
      (select (cmpi .sge (iota .tc (Pk n) 32 [1] h1) (broadcast (Pk n) 64#32)) (broadcast (Pk n) m)
        (broadcast (Pk n) 0#32)))
    (broadcast (Pk n) b)

/-- The rows whose number has bit `j` clear. -/
def clearAt (row : IVec (Pk n) 32) (j : BitVec 32) : IVec (Pk n) 1 :=
  cmpi .eq (andi row (broadcast (Pk n) j)) (broadcast (Pk n) 0#32)

/-- The rows a stage of the local sort orders upwards: bit `k` clear, read against the direction `d`. -/
def upAt (hb : (Pk n).Broadcasts (Pk n)) (row : IVec (Pk n) 32) (d : BitVec 1) (k : BitVec 32) : IVec (Pk n) 1 :=
  xori (xori (clearAt row k) (broadcastTo (Pk n) (broadcast (Pk n) d) hb)) (constantI (Pk n) 1 1#1)

variable {F : FTy → Type} [FloatOps F]

/-- Each row's partner at distance `j`, where both lie in one half of the lanes. -/
def mateRow (h : (Pk n).Rotates 0 none) (row : IVec (Pk n) 32) (j back : BitVec 32) (x : FVec F (Pk n) .bf16) :
    FVec F (Pk n) .bf16 :=
  select (clearAt row j) (dynamicRotate 0 back none x h) (dynamicRotate 0 j none x h)

/-- Each row's partner in the other half of the lanes. -/
def mateLane (h : (Pk n).Rotates 1 none) (x : FVec F (Pk n) .bf16) : FVec F (Pk n) .bf16 :=
  dynamicRotate 1 64#32 none x h

/-- The exchange: the lesser of an element and its partner where the row is the lower one exactly when
    it is ordered upwards, the greater elsewhere. -/
def exch (lo up : IVec (Pk n) 1) (x y : FVec F (Pk n) .bf16) : FVec F (Pk n) .bf16 :=
  select (xori (xori lo up) (constantI (Pk n) 1 1#1)) (minimumf x y) (maximumf x y)

/-- One stage at distance `j` within the halves. -/
def stRow (h : (Pk n).Rotates 0 none) (row : IVec (Pk n) 32) (up : IVec (Pk n) 1) (j back : BitVec 32)
    (x : FVec F (Pk n) .bf16) : FVec F (Pk n) .bf16 :=
  exch (clearAt row j) up x (mateRow h row j back x)

/-- The stage between the halves, at distance `j` (as many rows as a half holds). -/
def stLane (h : (Pk n).Rotates 1 none) (row : IVec (Pk n) 32) (up : IVec (Pk n) 1) (j : BitVec 32)
    (x : FVec F (Pk n) .bf16) : FVec F (Pk n) .bf16 :=
  exch (clearAt row j) up x (mateLane h x)

/-- A block of `m` rows packed: its first `n` rows in the first half of the lanes, the next `n` in the second. -/
def pack {m : Nat} (h0 : (Blk m).Slices ![0, 0] (Blk n)) (h1 : (Blk m).Slices ![n, 0] (Blk n))
    (hc : Shape.Concatenates [Blk n, Blk n] (Pk n) 1) (x : FVec F (Blk m) .bf16) : FVec F (Pk n) .bf16 :=
  concatenate (Pk n) 1
    [⟨Blk n, extractStridedSlice (Blk n) ![0, 0] x h0⟩, ⟨Blk n, extractStridedSlice (Blk n) ![n, 0] x h1⟩] hc

/-- A packed block back in its `m` rows. -/
def unpack {m : Nat} (h0 : (Pk n).Slices ![0, 0] (Blk n)) (h1 : (Pk n).Slices ![0, 64] (Blk n))
    (hc : Shape.Concatenates [Blk n, Blk n] (Blk m) 0) (x : FVec F (Pk n) .bf16) : FVec F (Blk m) .bf16 :=
  concatenate (Blk m) 0
    [⟨Blk n, extractStridedSlice (Blk n) ![0, 0] x h0⟩, ⟨Blk n, extractStridedSlice (Blk n) ![0, 64] x h1⟩] hc

end Defs

variable {F : FTy → Type} [FloatOps F]

/-! ## One device's 128 rows -/

/-- The row numbers of the local sort. -/
def rows64 : IVec (Pk 64) 32 := rowWords 64 (by decide) (by decide) 64#32 0#32

/-- The rows ordered upwards while runs of `k` rows are made, in the direction `d`. -/
def ups (d : BitVec 1) (k : BitVec 32) : IVec (Pk 64) 1 := upAt (by decide) rows64 d k

/-- A device's rows packed. -/
def loc_0 (x : FVec F (Blk 128) .bf16) : FVec F (Pk 64) .bf16 :=
  pack (m := 128) (by decide) (by decide) (by decide) (shapeCast (Blk 128) x (by decide))

/-- The packed rows after 1 stage of the local sort on the device of word `w`. -/
def loc_1 (w : BitVec 32) (x : FVec F (Blk 128) .bf16) : FVec F (Pk 64) .bf16 :=
  stRow (by decide) rows64 (ups (evenBit w) 2#32) 1#32 63#32 (loc_0 x)

/-- The packed rows after 2 stages of the local sort on the device of word `w`. -/
def loc_2 (w : BitVec 32) (x : FVec F (Blk 128) .bf16) : FVec F (Pk 64) .bf16 :=
  stRow (by decide) rows64 (ups (evenBit w) 4#32) 2#32 62#32 (loc_1 w x)

/-- The packed rows after 3 stages of the local sort on the device of word `w`. -/
def loc_3 (w : BitVec 32) (x : FVec F (Blk 128) .bf16) : FVec F (Pk 64) .bf16 :=
  stRow (by decide) rows64 (ups (evenBit w) 4#32) 1#32 63#32 (loc_2 w x)

/-- The packed rows after 4 stages of the local sort on the device of word `w`. -/
def loc_4 (w : BitVec 32) (x : FVec F (Blk 128) .bf16) : FVec F (Pk 64) .bf16 :=
  stRow (by decide) rows64 (ups (evenBit w) 8#32) 4#32 60#32 (loc_3 w x)

/-- The packed rows after 5 stages of the local sort on the device of word `w`. -/
def loc_5 (w : BitVec 32) (x : FVec F (Blk 128) .bf16) : FVec F (Pk 64) .bf16 :=
  stRow (by decide) rows64 (ups (evenBit w) 8#32) 2#32 62#32 (loc_4 w x)

/-- The packed rows after 6 stages of the local sort on the device of word `w`. -/
def loc_6 (w : BitVec 32) (x : FVec F (Blk 128) .bf16) : FVec F (Pk 64) .bf16 :=
  stRow (by decide) rows64 (ups (evenBit w) 8#32) 1#32 63#32 (loc_5 w x)

/-- The packed rows after 7 stages of the local sort on the device of word `w`. -/
def loc_7 (w : BitVec 32) (x : FVec F (Blk 128) .bf16) : FVec F (Pk 64) .bf16 :=
  stRow (by decide) rows64 (ups (evenBit w) 16#32) 8#32 56#32 (loc_6 w x)

/-- The packed rows after 8 stages of the local sort on the device of word `w`. -/
def loc_8 (w : BitVec 32) (x : FVec F (Blk 128) .bf16) : FVec F (Pk 64) .bf16 :=
  stRow (by decide) rows64 (ups (evenBit w) 16#32) 4#32 60#32 (loc_7 w x)

/-- The packed rows after 9 stages of the local sort on the device of word `w`. -/
def loc_9 (w : BitVec 32) (x : FVec F (Blk 128) .bf16) : FVec F (Pk 64) .bf16 :=
  stRow (by decide) rows64 (ups (evenBit w) 16#32) 2#32 62#32 (loc_8 w x)

/-- The packed rows after 10 stages of the local sort on the device of word `w`. -/
def loc_10 (w : BitVec 32) (x : FVec F (Blk 128) .bf16) : FVec F (Pk 64) .bf16 :=
  stRow (by decide) rows64 (ups (evenBit w) 16#32) 1#32 63#32 (loc_9 w x)

/-- The packed rows after 11 stages of the local sort on the device of word `w`. -/
def loc_11 (w : BitVec 32) (x : FVec F (Blk 128) .bf16) : FVec F (Pk 64) .bf16 :=
  stRow (by decide) rows64 (ups (evenBit w) 32#32) 16#32 48#32 (loc_10 w x)

/-- The packed rows after 12 stages of the local sort on the device of word `w`. -/
def loc_12 (w : BitVec 32) (x : FVec F (Blk 128) .bf16) : FVec F (Pk 64) .bf16 :=
  stRow (by decide) rows64 (ups (evenBit w) 32#32) 8#32 56#32 (loc_11 w x)

/-- The packed rows after 13 stages of the local sort on the device of word `w`. -/
def loc_13 (w : BitVec 32) (x : FVec F (Blk 128) .bf16) : FVec F (Pk 64) .bf16 :=
  stRow (by decide) rows64 (ups (evenBit w) 32#32) 4#32 60#32 (loc_12 w x)

/-- The packed rows after 14 stages of the local sort on the device of word `w`. -/
def loc_14 (w : BitVec 32) (x : FVec F (Blk 128) .bf16) : FVec F (Pk 64) .bf16 :=
  stRow (by decide) rows64 (ups (evenBit w) 32#32) 2#32 62#32 (loc_13 w x)

/-- The packed rows after 15 stages of the local sort on the device of word `w`. -/
def loc_15 (w : BitVec 32) (x : FVec F (Blk 128) .bf16) : FVec F (Pk 64) .bf16 :=
  stRow (by decide) rows64 (ups (evenBit w) 32#32) 1#32 63#32 (loc_14 w x)

/-- The packed rows after 16 stages of the local sort on the device of word `w`. -/
def loc_16 (w : BitVec 32) (x : FVec F (Blk 128) .bf16) : FVec F (Pk 64) .bf16 :=
  stRow (by decide) rows64 (ups (evenBit w) 64#32) 32#32 32#32 (loc_15 w x)

/-- The packed rows after 17 stages of the local sort on the device of word `w`. -/
def loc_17 (w : BitVec 32) (x : FVec F (Blk 128) .bf16) : FVec F (Pk 64) .bf16 :=
  stRow (by decide) rows64 (ups (evenBit w) 64#32) 16#32 48#32 (loc_16 w x)

/-- The packed rows after 18 stages of the local sort on the device of word `w`. -/
def loc_18 (w : BitVec 32) (x : FVec F (Blk 128) .bf16) : FVec F (Pk 64) .bf16 :=
  stRow (by decide) rows64 (ups (evenBit w) 64#32) 8#32 56#32 (loc_17 w x)

/-- The packed rows after 19 stages of the local sort on the device of word `w`. -/
def loc_19 (w : BitVec 32) (x : FVec F (Blk 128) .bf16) : FVec F (Pk 64) .bf16 :=
  stRow (by decide) rows64 (ups (evenBit w) 64#32) 4#32 60#32 (loc_18 w x)

/-- The packed rows after 20 stages of the local sort on the device of word `w`. -/
def loc_20 (w : BitVec 32) (x : FVec F (Blk 128) .bf16) : FVec F (Pk 64) .bf16 :=
  stRow (by decide) rows64 (ups (evenBit w) 64#32) 2#32 62#32 (loc_19 w x)

/-- The packed rows after 21 stages of the local sort on the device of word `w`. -/
def loc_21 (w : BitVec 32) (x : FVec F (Blk 128) .bf16) : FVec F (Pk 64) .bf16 :=
  stRow (by decide) rows64 (ups (evenBit w) 64#32) 1#32 63#32 (loc_20 w x)

/-- The packed rows after 22 stages of the local sort on the device of word `w`. -/
def loc_22 (w : BitVec 32) (x : FVec F (Blk 128) .bf16) : FVec F (Pk 64) .bf16 :=
  stLane (by decide) rows64 (ups (evenBit w) 128#32) 64#32 (loc_21 w x)

/-- The packed rows after 23 stages of the local sort on the device of word `w`. -/
def loc_23 (w : BitVec 32) (x : FVec F (Blk 128) .bf16) : FVec F (Pk 64) .bf16 :=
  stRow (by decide) rows64 (ups (evenBit w) 128#32) 32#32 32#32 (loc_22 w x)

/-- The packed rows after 24 stages of the local sort on the device of word `w`. -/
def loc_24 (w : BitVec 32) (x : FVec F (Blk 128) .bf16) : FVec F (Pk 64) .bf16 :=
  stRow (by decide) rows64 (ups (evenBit w) 128#32) 16#32 48#32 (loc_23 w x)

/-- The packed rows after 25 stages of the local sort on the device of word `w`. -/
def loc_25 (w : BitVec 32) (x : FVec F (Blk 128) .bf16) : FVec F (Pk 64) .bf16 :=
  stRow (by decide) rows64 (ups (evenBit w) 128#32) 8#32 56#32 (loc_24 w x)

/-- The packed rows after 26 stages of the local sort on the device of word `w`. -/
def loc_26 (w : BitVec 32) (x : FVec F (Blk 128) .bf16) : FVec F (Pk 64) .bf16 :=
  stRow (by decide) rows64 (ups (evenBit w) 128#32) 4#32 60#32 (loc_25 w x)

/-- The packed rows after 27 stages of the local sort on the device of word `w`. -/
def loc_27 (w : BitVec 32) (x : FVec F (Blk 128) .bf16) : FVec F (Pk 64) .bf16 :=
  stRow (by decide) rows64 (ups (evenBit w) 128#32) 2#32 62#32 (loc_26 w x)

/-- The packed rows after 28 stages of the local sort on the device of word `w`. -/
def loc_28 (w : BitVec 32) (x : FVec F (Blk 128) .bf16) : FVec F (Pk 64) .bf16 :=
  stRow (by decide) rows64 (ups (evenBit w) 128#32) 1#32 63#32 (loc_27 w x)

/-- The device's rows sorted: upwards on an even device, downwards on an odd one. -/
def locOut (w : BitVec 32) (x : FVec F (Blk 128) .bf16) : FVec F (Blk 128) .bf16 :=
  unpack (by decide) (by decide) (by decide) (loc_28 w x)

/-! ## The merge of 256 rows -/

/-- The row numbers of the merge of 256 rows from row `b`. -/
def rows128 (b : BitVec 32) : IVec (Pk 128) 32 := rowWords 128 (by decide) (by decide) 128#32 b

/-- The block packed. -/
def mg256_0 (x : FVec F (Blk 256) .bf16) : FVec F (Pk 128) .bf16 :=
  pack (m := 256) (by decide) (by decide) (by decide) x

/-- The packed block after 1 stage of the merge. -/
def mg256_1 (b : BitVec 32) (x : FVec F (Blk 256) .bf16) : FVec F (Pk 128) .bf16 :=
  stLane (by decide) (rows128 b) (clearAt (rows128 b) 256#32) 128#32 (mg256_0 x)

/-- The packed block after 2 stages of the merge. -/
def mg256_2 (b : BitVec 32) (x : FVec F (Blk 256) .bf16) : FVec F (Pk 128) .bf16 :=
  stRow (by decide) (rows128 b) (clearAt (rows128 b) 256#32) 64#32 64#32 (mg256_1 b x)

/-- The packed block after 3 stages of the merge. -/
def mg256_3 (b : BitVec 32) (x : FVec F (Blk 256) .bf16) : FVec F (Pk 128) .bf16 :=
  stRow (by decide) (rows128 b) (clearAt (rows128 b) 256#32) 32#32 96#32 (mg256_2 b x)

/-- The packed block after 4 stages of the merge. -/
def mg256_4 (b : BitVec 32) (x : FVec F (Blk 256) .bf16) : FVec F (Pk 128) .bf16 :=
  stRow (by decide) (rows128 b) (clearAt (rows128 b) 256#32) 16#32 112#32 (mg256_3 b x)

/-- The packed block after 5 stages of the merge. -/
def mg256_5 (b : BitVec 32) (x : FVec F (Blk 256) .bf16) : FVec F (Pk 128) .bf16 :=
  stRow (by decide) (rows128 b) (clearAt (rows128 b) 256#32) 8#32 120#32 (mg256_4 b x)

/-- The packed block after 6 stages of the merge. -/
def mg256_6 (b : BitVec 32) (x : FVec F (Blk 256) .bf16) : FVec F (Pk 128) .bf16 :=
  stRow (by decide) (rows128 b) (clearAt (rows128 b) 256#32) 4#32 124#32 (mg256_5 b x)

/-- The packed block after 7 stages of the merge. -/
def mg256_7 (b : BitVec 32) (x : FVec F (Blk 256) .bf16) : FVec F (Pk 128) .bf16 :=
  stRow (by decide) (rows128 b) (clearAt (rows128 b) 256#32) 2#32 126#32 (mg256_6 b x)

/-- The packed block after 8 stages of the merge. -/
def mg256_8 (b : BitVec 32) (x : FVec F (Blk 256) .bf16) : FVec F (Pk 128) .bf16 :=
  stRow (by decide) (rows128 b) (clearAt (rows128 b) 256#32) 1#32 127#32 (mg256_7 b x)

/-- The block merged. -/
def mg256Out (b : BitVec 32) (x : FVec F (Blk 256) .bf16) : FVec F (Blk 256) .bf16 :=
  unpack (by decide) (by decide) (by decide) (mg256_8 b x)

/-! ## The merge of 512 rows -/

/-- The row numbers of the merge of 512 rows from row `b`. -/
def rows256 (b : BitVec 32) : IVec (Pk 256) 32 := rowWords 256 (by decide) (by decide) 256#32 b

/-- The block packed. -/
def mg512_0 (x : FVec F (Blk 512) .bf16) : FVec F (Pk 256) .bf16 :=
  pack (m := 512) (by decide) (by decide) (by decide) x

/-- The packed block after 1 stage of the merge. -/
def mg512_1 (b : BitVec 32) (x : FVec F (Blk 512) .bf16) : FVec F (Pk 256) .bf16 :=
  stLane (by decide) (rows256 b) (clearAt (rows256 b) 512#32) 256#32 (mg512_0 x)

/-- The packed block after 2 stages of the merge. -/
def mg512_2 (b : BitVec 32) (x : FVec F (Blk 512) .bf16) : FVec F (Pk 256) .bf16 :=
  stRow (by decide) (rows256 b) (clearAt (rows256 b) 512#32) 128#32 128#32 (mg512_1 b x)

/-- The packed block after 3 stages of the merge. -/
def mg512_3 (b : BitVec 32) (x : FVec F (Blk 512) .bf16) : FVec F (Pk 256) .bf16 :=
  stRow (by decide) (rows256 b) (clearAt (rows256 b) 512#32) 64#32 192#32 (mg512_2 b x)

/-- The packed block after 4 stages of the merge. -/
def mg512_4 (b : BitVec 32) (x : FVec F (Blk 512) .bf16) : FVec F (Pk 256) .bf16 :=
  stRow (by decide) (rows256 b) (clearAt (rows256 b) 512#32) 32#32 224#32 (mg512_3 b x)

/-- The packed block after 5 stages of the merge. -/
def mg512_5 (b : BitVec 32) (x : FVec F (Blk 512) .bf16) : FVec F (Pk 256) .bf16 :=
  stRow (by decide) (rows256 b) (clearAt (rows256 b) 512#32) 16#32 240#32 (mg512_4 b x)

/-- The packed block after 6 stages of the merge. -/
def mg512_6 (b : BitVec 32) (x : FVec F (Blk 512) .bf16) : FVec F (Pk 256) .bf16 :=
  stRow (by decide) (rows256 b) (clearAt (rows256 b) 512#32) 8#32 248#32 (mg512_5 b x)

/-- The packed block after 7 stages of the merge. -/
def mg512_7 (b : BitVec 32) (x : FVec F (Blk 512) .bf16) : FVec F (Pk 256) .bf16 :=
  stRow (by decide) (rows256 b) (clearAt (rows256 b) 512#32) 4#32 252#32 (mg512_6 b x)

/-- The packed block after 8 stages of the merge. -/
def mg512_8 (b : BitVec 32) (x : FVec F (Blk 512) .bf16) : FVec F (Pk 256) .bf16 :=
  stRow (by decide) (rows256 b) (clearAt (rows256 b) 512#32) 2#32 254#32 (mg512_7 b x)

/-- The packed block after 9 stages of the merge. -/
def mg512_9 (b : BitVec 32) (x : FVec F (Blk 512) .bf16) : FVec F (Pk 256) .bf16 :=
  stRow (by decide) (rows256 b) (clearAt (rows256 b) 512#32) 1#32 255#32 (mg512_8 b x)

/-- The block merged. -/
def mg512Out (b : BitVec 32) (x : FVec F (Blk 512) .bf16) : FVec F (Blk 512) .bf16 :=
  unpack (by decide) (by decide) (by decide) (mg512_9 b x)

/-! ## The merge of 1024 rows -/

/-- The row numbers of the merge of all rows. -/
def rows512 : IVec (Pk 512) 32 := rowWords 512 (by decide) (by decide) 512#32 0#32

/-- The block packed. -/
def mg1024_0 (x : FVec F (Blk 1024) .bf16) : FVec F (Pk 512) .bf16 :=
  pack (m := 1024) (by decide) (by decide) (by decide) x

/-- The packed block after 1 stage of the merge. -/
def mg1024_1 (x : FVec F (Blk 1024) .bf16) : FVec F (Pk 512) .bf16 :=
  stLane (by decide) rows512 (clearAt rows512 1024#32) 512#32 (mg1024_0 x)

/-- The packed block after 2 stages of the merge. -/
def mg1024_2 (x : FVec F (Blk 1024) .bf16) : FVec F (Pk 512) .bf16 :=
  stRow (by decide) rows512 (clearAt rows512 1024#32) 256#32 256#32 (mg1024_1 x)

/-- The packed block after 3 stages of the merge. -/
def mg1024_3 (x : FVec F (Blk 1024) .bf16) : FVec F (Pk 512) .bf16 :=
  stRow (by decide) rows512 (clearAt rows512 1024#32) 128#32 384#32 (mg1024_2 x)

/-- The packed block after 4 stages of the merge. -/
def mg1024_4 (x : FVec F (Blk 1024) .bf16) : FVec F (Pk 512) .bf16 :=
  stRow (by decide) rows512 (clearAt rows512 1024#32) 64#32 448#32 (mg1024_3 x)

/-- The packed block after 5 stages of the merge. -/
def mg1024_5 (x : FVec F (Blk 1024) .bf16) : FVec F (Pk 512) .bf16 :=
  stRow (by decide) rows512 (clearAt rows512 1024#32) 32#32 480#32 (mg1024_4 x)

/-- The packed block after 6 stages of the merge. -/
def mg1024_6 (x : FVec F (Blk 1024) .bf16) : FVec F (Pk 512) .bf16 :=
  stRow (by decide) rows512 (clearAt rows512 1024#32) 16#32 496#32 (mg1024_5 x)

/-- The packed block after 7 stages of the merge. -/
def mg1024_7 (x : FVec F (Blk 1024) .bf16) : FVec F (Pk 512) .bf16 :=
  stRow (by decide) rows512 (clearAt rows512 1024#32) 8#32 504#32 (mg1024_6 x)

/-- The packed block after 8 stages of the merge. -/
def mg1024_8 (x : FVec F (Blk 1024) .bf16) : FVec F (Pk 512) .bf16 :=
  stRow (by decide) rows512 (clearAt rows512 1024#32) 4#32 508#32 (mg1024_7 x)

/-- The packed block after 9 stages of the merge. -/
def mg1024_9 (x : FVec F (Blk 1024) .bf16) : FVec F (Pk 512) .bf16 :=
  stRow (by decide) rows512 (clearAt rows512 1024#32) 2#32 510#32 (mg1024_8 x)

/-- The packed block after 10 stages of the merge. -/
def mg1024_10 (x : FVec F (Blk 1024) .bf16) : FVec F (Pk 512) .bf16 :=
  stRow (by decide) rows512 (clearAt rows512 1024#32) 1#32 511#32 (mg1024_9 x)

/-- The block merged. -/
def mg1024Out (x : FVec F (Blk 1024) .bf16) : FVec F (Blk 1024) .bf16 :=
  unpack (by decide) (by decide) (by decide) (mg1024_10 x)

end Cert.Bitonic
-- ==== Proof.Contents.lean ====
/- What the gathered buffer holds after each level of the merge, as functions of the devices' rows:
   level 0 is the eight locally sorted blocks one after the other, level 1 each pair of blocks merged,
   level 2 each group of four merged, level 3 all of it. -/
module

public import proofs.«01_k».proof.Proof.Stages

@[expose] public section

noncomputable section

namespace Cert.Bitonic

open Idealize.ShloMosaic

variable {F : FTy → Type} [FloatOps F]

/-- The entry of row `r` (taken around the block) and column `c`. -/
def ix (n : Nat) [NeZero n] (r : Nat) (c : Fin 64) : (Blk n).Idx := fun a => match a with
  | ⟨0, _⟩ => (Fin.ofNat n r : Fin n)
  | ⟨1, _⟩ => (c : Fin 64)

/-- The row and the column of an entry. -/
def row {n : Nat} (y : (Blk n).Idx) : Nat := (y (0 : Fin 2)).val
def col {n : Nat} (y : (Blk n).Idx) : Fin 64 := y (1 : Fin 2)

theorem row_ix (n : Nat) [NeZero n] (r : Nat) (c : Fin 64) : row (ix n r c) = r % n := rfl
theorem col_ix (n : Nat) [NeZero n] (r : Nat) (c : Fin 64) : col (ix n r c) = c := rfl
theorem row_lt {n : Nat} (y : (Blk n).Idx) : row y < n := (y (0 : Fin 2)).isLt

theorem ix_ext (n : Nat) [NeZero n] {r : Nat} {c : Fin 64} {y : (Blk n).Idx} (h0 : r % n = row y) (h1 : c = col y) : ix n r c = y := by
  funext a
  match a with
  | ⟨0, _⟩ => exact Fin.ext h0
  | ⟨1, _⟩ => exact h1

theorem ix_self (n : Nat) [NeZero n] (y : (Blk n).Idx) : ix n (row y) (col y) = y :=
  ix_ext n (Nat.mod_eq_of_lt (row_lt y)) rfl

/-- Block `p` of `h` rows out of the gathered rows. -/
def gather {α : Type} (h p : Nat) (f : (Blk 1024).Idx → α) : (Blk h).Idx → α :=
  fun y => f (ix 1024 (h * p + row y) (col y))

/-- The word of device `d` as the kernel computes it. -/
def devw (d : BitVec 32) : BitVec 32 := Scalar.remsi (Scalar.divsi d 1#32) 8#32

/-- The blocks one after the other. -/
def lvl0 {α : Type} (v : Fin 8 → (Blk 128).Idx → α) : (Blk 1024).Idx → α :=
  fun x => v (Fin.ofNat 8 (row x / 128)) (ix 128 (row x) (col x))

/-- Each block of 256 rows merged, up or down by the place of the block. -/
def lvl1 (g : FVec F (Blk 1024) .bf16) : FVec F (Blk 1024) .bf16 := fun x =>
  mg256Out (BitVec.ofNat 32 (256 * (row x / 256))) (gather 256 (row x / 256) g)
    (ix 256 (row x) (col x))

/-- Each block of 512 rows merged. -/
def lvl2 (g : FVec F (Blk 1024) .bf16) : FVec F (Blk 1024) .bf16 := fun x =>
  mg512Out (BitVec.ofNat 32 (512 * (row x / 512))) (gather 512 (row x / 512) g)
    (ix 512 (row x) (col x))

/-- The rows each device has sorted for itself. -/
def sorted0 (X : Fin 8 → FVec F (Blk 128) .bf16) (d : Fin 8) : FVec F (Blk 128) .bf16 :=
  locOut (devw (BitVec.ofNat 32 d.val)) (X d)

/-- All rows in order, and device `d`'s block of them. -/
def allSorted (X : Fin 8 → FVec F (Blk 128) .bf16) : FVec F (Blk 1024) .bf16 :=
  mg1024Out (lvl2 (lvl1 (lvl0 (sorted0 X))))

def outBlock (X : Fin 8 → FVec F (Blk 128) .bf16) (d : Fin 8) : FVec F (Blk 128) .f32 :=
  extf .f32 (gather 128 d.val (allSorted X)) (by decide)

/-! ## The rows of a set of blocks -/

/-- The entries whose block of 128 rows is in `S`. -/
def rowsOf (S : Finset (Fin 8)) : Finset (Blk 1024).Idx :=
  Finset.univ.filter fun x => Fin.ofNat 8 (row x / 128) ∈ S

theorem mem_rowsOf {S : Finset (Fin 8)} {x : (Blk 1024).Idx} :
    x ∈ rowsOf S ↔ Fin.ofNat 8 (row x / 128) ∈ S := by
  unfold rowsOf; rw [Finset.mem_filter]; exact and_iff_right (Finset.mem_univ _)

theorem rowsOf_univ : rowsOf Finset.univ = Finset.univ := by
  ext x; rw [mem_rowsOf]; exact iff_of_true (Finset.mem_univ _) (Finset.mem_univ _)

theorem rowsOf_union (S T : Finset (Fin 8)) : rowsOf (S ∪ T) = rowsOf S ∪ rowsOf T := by
  ext x; rw [Finset.mem_union, mem_rowsOf, mem_rowsOf, mem_rowsOf, Finset.mem_union]

theorem rowsOf_disjoint {S T : Finset (Fin 8)} (h : Disjoint S T) : Disjoint (rowsOf S) (rowsOf T) := by
  rw [Finset.disjoint_left] at h ⊢
  intro x hx hy
  exact h (mem_rowsOf.mp hx) (mem_rowsOf.mp hy)

theorem rowsOf_biUnion (S : Finset (Fin 8)) : rowsOf S = S.biUnion fun j => rowsOf {j} := by
  ext x
  rw [mem_rowsOf, Finset.mem_biUnion]
  constructor
  · intro h; exact ⟨_, h, mem_rowsOf.mpr (Finset.mem_singleton_self _)⟩
  · rintro ⟨j, hj, h⟩; rw [Finset.mem_singleton.mp (mem_rowsOf.mp h)]; exact hj

/-- The `k` blocks of group `p`. -/
def seg (k p : Nat) : Finset (Fin 8) := Finset.univ.filter fun j => j.val / k = p

theorem mem_rowsOf_seg {k p : Nat} {x : (Blk 1024).Idx} : x ∈ rowsOf (seg k p) ↔ row x / (128 * k) = p := by
  rw [mem_rowsOf]; unfold seg
  rw [Finset.mem_filter, ← Nat.div_div_eq_div_mul]
  have h : (Fin.ofNat 8 (row x / 128)).val = row x / 128 :=
    Nat.mod_eq_of_lt (by have := row_lt x; omega)
  rw [h]
  exact and_iff_right (Finset.mem_univ _)

/-- The rectangle of the rows of a group. -/
theorem rect_rows (k p : Nat) {off : Fin 2 → Nat} (hk : 0 < k) (hoff : off = ![128 * k * p, 0])
    (inb : ∀ a, off a + (Blk (128 * k)).size a ≤ (Blk 1024).size a) :
    (Rect.unit (s := Blk 1024) off (Blk (128 * k)).size inb).set = rowsOf (seg k p) := by
  subst hoff
  ext x
  rw [Rect.mem_set_unit, mem_rowsOf_seg, Fin.forall_fin_two]
  show (128 * k * p ≤ row x ∧ row x < 128 * k * p + 128 * k) ∧ (0 ≤ (x (1 : Fin 2)).val ∧ (x (1 : Fin 2)).val < 0 + 64) ↔ _
  have h1 : (x (1 : Fin 2)).val < 64 := (col x).isLt
  rw [Nat.div_eq_iff (by omega)]
  rw [Nat.mul_comm p (128 * k)]
  omega

theorem seg_one (j : Fin 8) : seg 1 j.val = {j} := by revert j; decide

/-! ## The blocks of each level -/

theorem gather_lvl0 {α : Type} (v : Fin 8 → (Blk 128).Idx → α) (c : Fin 8) : gather 128 c.val (lvl0 v) = v c := by
  funext y
  have hy : row y < 128 := row_lt y
  have hc : c.val < 8 := c.isLt
  unfold gather lvl0
  rw [row_ix, col_ix]
  have hd : (Fin.ofNat 8 ((128 * c.val + row y) % 1024 / 128) : Fin 8) = c := Fin.ext (by show _ % 8 = _; omega)
  rw [hd, ix_ext 128 (y := y) (by omega) rfl]

theorem gather_lvl1 (g : FVec F (Blk 1024) .bf16) (p : Nat) (hp : p < 4) :
    gather 256 p (lvl1 g) = mg256Out (BitVec.ofNat 32 (256 * p)) (gather 256 p g) := by
  funext y
  have hy : row y < 256 := row_lt y
  show lvl1 g (ix 1024 (256 * p + row y) (col y)) = _
  unfold lvl1
  rw [row_ix, col_ix, show (256 * p + row y) % 1024 / 256 = p by omega, ix_ext 256 (y := y) (by omega) rfl]

theorem gather_lvl2 (g : FVec F (Blk 1024) .bf16) (p : Nat) (hp : p < 2) :
    gather 512 p (lvl2 g) = mg512Out (BitVec.ofNat 32 (512 * p)) (gather 512 p g) := by
  funext y
  have hy : row y < 512 := row_lt y
  show lvl2 g (ix 1024 (512 * p + row y) (col y)) = _
  unfold lvl2
  rw [row_ix, col_ix, show (512 * p + row y) % 1024 / 512 = p by omega, ix_ext 512 (y := y) (by omega) rfl]

theorem gather_all {α : Type} (g : (Blk 1024).Idx → α) : gather 1024 0 g = g := by
  funext y
  have hy : row y < 1024 := row_lt y
  show g (ix 1024 (1024 * 0 + row y) (col y)) = _
  rw [ix_ext 1024 (y := y) (by omega) rfl]

end Cert.Bitonic

end
-- ==== Proof.KernelIdealProtocol.lean ====
/- The protocol of the eight devices: the semaphores, who pays and waits on each, and what every payment
   hands over with its contents.

   Barrier semaphore of device `c`: every other device `d` signals it once and hands over block `c` of its own
   gathering buffer, the place `c`'s copy will land.  Receive semaphore `j` of device `c`: device `j`'s copy
   pays it once and hands `c` block `j` of `c`'s buffer, holding `j`'s sorted rows.  Send semaphore `i` of
   device `c`: `c`'s own copy number `i` pays it and hands back the share of the send buffer it read.
   Everything happens in one round. -/
module

public import proofs.«01_k».proof.Proof.Contents
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves

@[expose] public section

noncomputable section

namespace Cert.KernelIdeal.Run

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds' algebra, duties named by the device that pays; beside the pipeline's own. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Places and semaphores -/

/-- The device a signal goes to, and the device a copy goes to. -/
def rotd (c : Dev nD) (o : Fin 7) : Dev nD := ⟨(c.val + o.val + 1) % 8, Nat.mod_lt _ (by decide)⟩
def xord (c : Dev nD) (i : Fin 7) : Dev nD := ⟨(c.val ^^^ (i.val + 1)) % 8, Nat.mod_lt _ (by decide)⟩

theorem xord_xord (c : Dev nD) (i : Fin 7) : xord (xord c i) i = c := by revert c i; decide
theorem xord_ne (c : Dev nD) (i : Fin 7) : xord c i ≠ c := by revert c i; decide
theorem rotd_ne (c : Dev nD) (o : Fin 7) : rotd c o ≠ c := by revert c o; decide

abbrev all7 : List (Fin 7) := [0, 1, 2, 3, 4, 5, 6]

theorem rotd_all (c : Dev nD) : Finset.univ.erase c = (all7.map (rotd c)).toFinset := by revert c; decide
theorem rotd_nodup (c : Dev nD) : (all7.map (rotd c)).Nodup := by revert c; decide
theorem xord_all (c : Dev nD) : Finset.univ.erase c = (all7.map (xord c)).toFinset := by revert c; decide
theorem xord_nodup (c : Dev nD) : (all7.map (xord c)).Nodup := by revert c; decide

abbrev xM : Memref sig .tc .vmem S128x64 .bf16 := Memref.whole cc0_stg0_0
abbrev oM : Memref sig .tc .vmem S128x64 .f32 := Memref.whole cc0_stg1_0
abbrev gM : Memref sig .tc .vmem S1024x64 .bf16 := Memref.whole cc0_scratch0
abbrev bM : Memref sig .tc .vmem S128x64 .bf16 := Memref.whole cc0_scratch1
abbrev slotM (j : Dev nD) : Memref sig .tc .vmem S128x64 .bf16 :=
  gM.slice (Rect.unit (s := S1024x64) (k0_off3 j) S128x64.size (k0_off3_inb j)) (fun _ => rfl)

abbrev barS : Sem sig := (SemArray.scalar (sig.barrier 0 rfl) : Sems sig S_).sem
def sendS (i : Fin 7) : DmaSem sig := ⟨i.val + 2, by have := i.isLt; show _ < 17; omega⟩
def recvS (j : Dev nD) : DmaSem sig := ⟨j.val + 9, by have : j.val < 8 := j.isLt; show _ < 17; omega⟩

abbrev barCell (c : Dev nD) : GSem nD τ sig := ((c : Thread nD τ), .reg barS)
abbrev sendCell (c : Dev nD) (i : Fin 7) : GSem nD τ sig := ((c : Thread nD τ), .dma (sendS i))
abbrev recvCell (c j : Dev nD) : GSem nD τ sig := ((c : Thread nD τ), .dma (recvS j))

/-- A device's semaphores of the protocol: the barrier, the seven send and the eight receive semaphores. -/
abbrev Ck : Type := Option (Fin 7 ⊕ Fin 8)
abbrev csem : Ck → SemLoc sig := fun
  | none => .reg barS | some (.inl i) => .dma (sendS i) | some (.inr j) => .dma (recvS j)
abbrev kcell (ck : Dev nD × Ck) : GSem nD τ sig := ((ck.1 : Thread nD τ), csem ck.2)

theorem csem_injective : Function.Injective csem := by
  intro a b h
  rcases a with _ | i | i <;> rcases b with _ | j | j <;> first
    | rfl
    | (exfalso; cases h; done)
    | (have h' := congrArg Fin.val (SemLoc.dma.inj h); simp only [sendS, recvS] at h'
       first
         | (have : i = j := Fin.ext (by omega)
            subst this; rfl)
         | (exfalso; have hi := i.isLt; have hj := j.isLt; omega))

/-- Which semaphore of the protocol a semaphore is. -/
def role (sm : SemLoc sig) : Option Ck := match sm with
  | .reg s => if s = barS then some none else none
  | .dma q =>
    if h : 2 ≤ q.val ∧ q.val < 9 then some (some (.inl ⟨q.val - 2, by omega⟩))
    else if h : 9 ≤ q.val ∧ q.val < 17 then some (some (.inr ⟨q.val - 9, by omega⟩)) else none

theorem role_csem (k : Ck) : role (csem k) = some k := by
  rcases k with _ | i | j
  · rfl
  · revert i; decide
  · revert j; decide

/-- The credit of one block. -/
abbrev N : ℕ := (bM : Memref sig .tc .vmem S128x64 .bf16).view.dmaCredit
theorem N_pos : 0 < N := View.dmaCredit_pos _ (by decide)

/-! ## Contents -/

/-- Device `c`'s rows, as staged; the rows it has sorted; the gathered buffer after each level. -/
def xstg (c : Dev nD) : (cc0_stg0_0 : Ref sig .tc).ty.Contents (Elt F) :=
  (win0_0.blk (0 : Fin 1)).view.read (Elt F) ((s₀ m ρ).mem ((c : Thread nD τ).loc main_arg0))

def vloc (c : Dev nD) : FVec F S128x64 .bf16 := sorted0 (xstg m ρ) c
def G0 : FVec F S1024x64 .bf16 := lvl0 (vloc m ρ)
def G1 : FVec F S1024x64 .bf16 := lvl1 (G0 m ρ)
def G2 : FVec F S1024x64 .bf16 := lvl2 (G1 m ρ)
def G3 : FVec F S1024x64 .bf16 := mg1024Out (G2 m ρ)
def outAt (c : Dev nD) : FVec F S128x64 .f32 := outBlock (xstg m ρ) c

/-- Blocks `S` of device `c`'s gathering buffer; a share of its send buffer. -/
def regPts (c : Dev nD) (S : Finset (Dev nD)) (f : FVec F S1024x64 .bf16) : sProp 𝕄 :=
  ((c : Thread nD τ).loc cc0_scratch0) ↦[rowsOf S]{fullShare} f
def bufPts (c : Dev nD) (q : PosShare TreeShare) (f : FVec F S128x64 .bf16) : sProp 𝕄 :=
  ((c : Thread nD τ).loc cc0_scratch1) ↦{q} f

/-- The share of the send buffer copy `i` reads. -/
def shr (i : Fin 7) : PosShare TreeShare := ShareLeaves.leaf 3 fullShare ⟨i.val, by have := i.isLt; show _ < 8; omega⟩

/-! ## The schedule -/

def payOf (c : Dev nD) (d : Dev nD) : Ck → sProp 𝕄
  | none => iprop(∃ f, regPts d {c} f)
  | some (.inl i) => bufPts c (shr i) (vloc m ρ c)
  | some (.inr j) => regPts c {j} (G0 m ρ)

def dutyOf (c : Dev nD) : Ck → Finset (Dev nD)
  | none => Finset.univ.erase c
  | some (.inl i) => {c}
  | some (.inr j) => if j = c then ∅ else {j}

/-- One round: the duties, amounts and payloads above at the protocol's semaphores, nothing elsewhere. -/
def rd : Rounds.Schedule (GSem nD τ sig) (Dev nD) 𝕄 where
  duties g r := if r = 0 ∧ g.1.2 = .tc then (match role g.2 with | some k => dutyOf g.1.1 k | none => ∅) else ∅
  unitless _ := False
  amount g _ _ := match role g.2 with | some none => 1 | _ => N
  payload g _ d := match role g.2 with | some k => payOf m ρ g.1.1 d k | none => iprop(emp)
  amount_pos g _ _ _ := by
    split
    · exact Nat.one_pos
    · exact N_pos

instance payOf_storable (c d : Dev nD) (k : Ck) : BI.Storable (upEmb : UEmb _ 𝕄) (payOf m ρ c d k) := by
  rcases k with _ | i | j
  · unfold payOf regPts; infer_instance
  · unfold payOf bufPts; infer_instance
  · unfold payOf regPts; infer_instance

instance rd_payload_storable (g : GSem nD τ sig) (r : ℕ) (d : Dev nD) :
    BI.Storable (upEmb : UEmb _ 𝕄) ((rd (F := F) m ρ).payload g r d) := by
  show BI.Storable upEmb (match role g.2 with | some k => payOf m ρ g.1.1 d k | none => iprop(emp))
  split <;> infer_instance

theorem duties_cell (c : Dev nD) (k : Ck) : (rd (F := F) m ρ).duties (kcell (c, k)) 0 = dutyOf c k := by
  dsimp only [rd]; rw [if_pos ⟨rfl, rfl⟩, role_csem]
theorem duties_later (g : GSem nD τ sig) : ∀ r, 1 ≤ r → (rd (F := F) m ρ).duties g r = ∅ :=
  fun r hr => by dsimp only [rd]; rw [if_neg fun h => by omega]
theorem payload_cell (c : Dev nD) (k : Ck) (d : Dev nD) : (rd (F := F) m ρ).payload (kcell (c, k)) 0 d = payOf m ρ c d k := by
  dsimp only [rd]; rw [role_csem]
theorem amount_bar (c d : Dev nD) : (rd (F := F) m ρ).amount (barCell c) 0 d = 1 := rfl
theorem amount_xfer (c d : Dev nD) (k : Fin 7 ⊕ Fin 8) : (rd (F := F) m ρ).amount (kcell (c, some k)) 0 d = N := by
  dsimp only [rd]; rw [role_csem]

theorem expect_bar (c : Dev nD) : (rd (F := F) m ρ).expect (barCell c) 0 = 7 := by
  unfold Schedule.expect Schedule.amountOf
  rw [show (rd (F := F) m ρ).duties (barCell c) 0 = Finset.univ.erase c from duties_cell m ρ c none,
    Finset.sum_congr rfl fun d _ => amount_bar m ρ c d, Finset.sum_const, smul_eq_mul, Nat.mul_one]
  revert c; decide
theorem expect_send (c : Dev nD) (i : Fin 7) : (rd (F := F) m ρ).expect (sendCell c i) 0 = N := by
  unfold Schedule.expect Schedule.amountOf
  rw [show (rd (F := F) m ρ).duties (sendCell c i) 0 = {c} from duties_cell m ρ c (some (.inl i)), Finset.sum_singleton]
  exact amount_xfer m ρ c c (.inl i)
theorem expect_recv (c j : Dev nD) (h : j ≠ c) : (rd (F := F) m ρ).expect (recvCell c j) 0 = N := by
  unfold Schedule.expect Schedule.amountOf
  rw [show (rd (F := F) m ρ).duties (recvCell c j) 0 = {j} from (duties_cell m ρ c (some (.inr j))).trans (if_neg h), Finset.sum_singleton]
  exact amount_xfer m ρ c j (.inr j)

theorem rest_send (c : Dev nD) (i : Fin 7) :
    bigSep ((rd (F := F) m ρ).duties (sendCell c i) 0 \ ∅) (fun d => (rd (F := F) m ρ).payload (sendCell c i) 0 d)
      = bufPts c (shr i) (vloc m ρ c) := by
  rw [Finset.sdiff_empty, show (rd (F := F) m ρ).duties (sendCell c i) 0 = {c} from duties_cell m ρ c (some (.inl i)), bigSep_singleton]
  exact payload_cell m ρ c (some (.inl i)) c
theorem rest_recv (c j : Dev nD) (h : j ≠ c) :
    bigSep ((rd (F := F) m ρ).duties (recvCell c j) 0 \ ∅) (fun d => (rd (F := F) m ρ).payload (recvCell c j) 0 d)
      = regPts c {j} (G0 m ρ) := by
  rw [Finset.sdiff_empty, show (rd (F := F) m ρ).duties (recvCell c j) 0 = {j} from (duties_cell m ρ c (some (.inr j))).trans (if_neg h), bigSep_singleton]
  exact payload_cell m ρ c (some (.inr j)) j

/-! ## Lists of resources, taken one at a time -/

/-- The resources of the entries of a list. -/
def allOf {ι : Type} (Φ : ι → sProp 𝕄) : List ι → sProp 𝕄
  | [] => iprop(emp)
  | a :: l => iprop(Φ a ∗ allOf Φ l)

theorem allOf_cons {ι : Type} (Φ : ι → sProp 𝕄) (a : ι) (l : List ι) : allOf Φ (a :: l) = iprop(Φ a ∗ allOf Φ l) := rfl

theorem allOf_of_finset {ι : Type} [DecidableEq ι] (Φ : ι → sProp 𝕄) : ∀ l : List ι, l.Nodup →
    bigSep l.toFinset Φ = allOf Φ l
  | [], _ => by rw [List.toFinset_nil, bigSep_empty]; rfl
  | a :: l, h => by
    rw [List.toFinset_cons, bigSep_insert (fun hm => (List.nodup_cons.mp h).1 (List.mem_toFinset.mp hm)),
      allOf_of_finset Φ l (List.nodup_cons.mp h).2]
    rfl

theorem allOf_map {ι κ : Type} (f : ι → κ) (Φ : κ → sProp 𝕄) : ∀ l : List ι, allOf Φ (l.map f) = allOf (fun i => Φ (f i)) l
  | [] => rfl
  | a :: l => by rw [List.map_cons]; unfold allOf; rw [allOf_map f Φ l]

theorem allOf_sep {ι : Type} (Φ Ψ : ι → sProp 𝕄) : ∀ l : List ι,
    iprop(allOf Φ l ∗ allOf Ψ l) ⊢ allOf (fun i => iprop(Φ i ∗ Ψ i)) l
  | [] => by unfold allOf; iintro ⟨H, -⟩; iexact H
  | a :: l => by
    unfold allOf
    iintro ⟨⟨H1, H2⟩, H3, H4⟩
    isplitl [H1 H3]
    · isplitl [H1] <;> iassumption
    iapply (allOf_sep Φ Ψ l)
    isplitl [H2] <;> iassumption

/-- The other devices, in the order of the signals and in the order of the copies. -/
theorem others_rotd (c : Dev nD) (Φ : Dev nD → sProp 𝕄) : bigSep (Finset.univ.erase c) Φ = allOf (fun o => Φ (rotd c o)) all7 := by
  rw [rotd_all, allOf_of_finset Φ _ (rotd_nodup c), allOf_map]
theorem others_xord (c : Dev nD) (Φ : Dev nD → sProp 𝕄) : bigSep (Finset.univ.erase c) Φ = allOf (fun i => Φ (xord c i)) all7 := by
  rw [xord_all, allOf_of_finset Φ _ (xord_nodup c), allOf_map]
theorem fin7_all (Φ : Fin 7 → sProp 𝕄) : bigSep Finset.univ Φ = allOf Φ all7 := by
  rw [show (Finset.univ : Finset (Fin 7)) = all7.toFinset by decide, allOf_of_finset Φ _ (by decide)]

theorem rest_bar (c : Dev nD) :
    bigSep ((rd (F := F) m ρ).duties (barCell c) 0 \ ∅) (fun d => (rd (F := F) m ρ).payload (barCell c) 0 d)
      = allOf (fun i : Fin 7 => (iprop(∃ f, regPts (xord c i) {c} f) : sProp 𝕄)) all7 := by
  rw [Finset.sdiff_empty, show (rd (F := F) m ρ).duties (barCell c) 0 = Finset.univ.erase c from duties_cell m ρ c none, others_xord]
  exact congrArg (fun Φ => allOf Φ all7) (funext fun i => payload_cell m ρ c none (xord c i))

/-! ## What is owed; the levels -/

def owedL : List (GSem nD τ sig × ℕ) → CellTallies nD τ sig Unit
  | [] => 0
  | g :: l => owedL l + tallyAt g.1 () g.2

abbrev barsL (c : Dev nD) (l : List (Fin 7)) : List (GSem nD τ sig × ℕ) := l.map fun o => (barCell (rotd c o), 1)
abbrev recvsL (c : Dev nD) (l : List (Fin 7)) : List (GSem nD τ sig × ℕ) := l.map fun i => (recvCell (xord c i) c, N)

/-- What a device owes at launch: a unit to every other barrier, a block to its own receive semaphore of every other device. -/
def dues (c : Dev nD) : CellTallies nD τ sig Unit := owedL (barsL c all7 ++ recvsL c all7)

theorem owedL_pos {l : List (GSem nD τ sig × ℕ)} {g : GSem nD τ sig} {u : Unit} (h : 0 < owedL l g u) : ∃ n, (g, n) ∈ l := by
  induction l with
  | nil => exact absurd h (Nat.lt_irrefl 0)
  | cons a l ih =>
    unfold owedL at h
    rw [Pi.add_apply, Finsupp.add_apply, tallyAt_apply] at h
    by_cases hg : g = a.1 ∧ u = ()
    · exact ⟨a.2, by rw [hg.1]; exact List.mem_cons_self ..⟩
    · rw [if_neg hg, Nat.add_zero] at h
      obtain ⟨n, hn⟩ := ih h
      exact ⟨n, List.mem_cons_of_mem _ hn⟩

def L (g : GSem nD τ sig) : Finset Unit := if g.1.2 = .tc then {()} else ∅
/-- Barrier semaphores at 1, receive semaphores at 2, everything else at 0. -/
def lv (g : GSem nD τ sig) (_ : Unit) : ℕ := match role g.2 with | some none => 1 | some (some (.inr _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : Ck) : lv (kcell (c, k)) () = (match k with | none => 1 | some (.inr _) => 2 | _ => 0) := by
  unfold lv; rw [role_csem]
  rcases k with _ | i | j <;> rfl

theorem mem_recvsL {c : Dev nD} {l : List (Fin 7)} {g : GSem nD τ sig} {n : ℕ} (h : (g, n) ∈ recvsL c l) : ∃ d, g = recvCell d c := by
  obtain ⟨i, _, hi⟩ := List.mem_map.mp h
  exact ⟨xord c i, (congrArg Prod.fst hi).symm⟩
theorem mem_dues {c : Dev nD} {g : GSem nD τ sig} {n : ℕ} (h : (g, n) ∈ barsL c all7 ++ recvsL c all7) :
    (∃ d, g = barCell d) ∨ ∃ d, g = recvCell d c := by
  rcases List.mem_append.mp h with h | h
  · obtain ⟨i, _, hi⟩ := List.mem_map.mp h
    exact .inl ⟨rotd c i, (congrArg Prod.fst hi).symm⟩
  · exact .inr (mem_recvsL h)

/-- A staging semaphore may be waited on while all is owed, or nothing. -/
theorem mayWait_stage (c : Dev nD) (q : DmaSem sig) (hq : role (.dma q) = none) (O : CellTallies nD τ sig Unit) (hO : O = dues c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        obtain ⟨n, hn⟩ := owedL_pos hg
        rcases mem_dues hn with ⟨d, rfl⟩ | ⟨d, rfl⟩ <;> exact Finset.mem_singleton_self _)
      (fun p hp => by rw [Finset.mem_singleton.mp hp]; dsimp only [lv]; rw [hq])
      (fun g u hg => by
        obtain ⟨n, hn⟩ := owedL_pos hg
        rcases mem_dues hn with ⟨d, rfl⟩ | ⟨d, rfl⟩
        · exact (lv_cell d none).symm ▸ (by decide : 0 < 1)
        · exact (lv_cell d (some (.inr c))).symm ▸ (by decide : 0 < 2))
  · rw [MayWait_zero]; iintro -; iempintro

/-- At its barrier wait a device owes receive semaphores only. -/
theorem mayWait_bar (c : Dev nD) : (levAts L lv : sProp 𝕄) ⊢ MayWait (c : Thread nD τ) (.reg barS) () (owedL (recvsL c all7)) :=
  MayOwe.of_cut (L := L) (lev := lv) 1 (fun p hp => by rw [Finset.mem_singleton.mp hp, L_tc]; exact Finset.mem_singleton_self _)
    (fun g u hg => by
      obtain ⟨n, hn⟩ := owedL_pos hg
      obtain ⟨d, rfl⟩ := mem_recvsL hn
      exact Finset.mem_singleton_self _)
    (fun p hp => by rw [Finset.mem_singleton.mp hp]; exact le_of_eq (lv_cell c none))
    (fun g u hg => by
      obtain ⟨n, hn⟩ := owedL_pos hg
      obtain ⟨d, rfl⟩ := mem_recvsL hn
      exact (lv_cell d (some (.inr c))).symm ▸ (by decide : 1 < 2))

/-- What a core owes, whatever waits it has recorded. -/
def Owe (c : Dev nD) (O : CellTallies nD τ sig Unit) : sProp 𝕄 := iprop(∃ W, owes (c : Thread nD τ) O W)

/-! ## The records every device keeps -/

variable (K : Dev nD × Ck → ℕ)

/-- Every semaphore's invariant, and that every semaphore is in the round. -/
def records : sProp 𝕄 :=
  iprop((bigSep Finset.univ fun ck : Dev nD × Ck => cellInv ER (rd m ρ) (K ck) (kcell ck))
    ∗ bigSep Finset.univ fun ck : Dev nD × Ck => reached ER (kcell ck) 0)

instance records_persistent : BI.Persistent (records m ρ K) := by unfold records; infer_instance

theorem inv_at (ck : Dev nD × Ck) : records m ρ K ⊢ cellInv ER (rd m ρ) (K ck) (kcell ck) := by
  have h : (bigSep Finset.univ fun ck : Dev nD × Ck => (cellInv ER (rd m ρ) (K ck) (kcell ck) : sProp 𝕄)) ⊢ cellInv ER (rd m ρ) (K ck) (kcell ck) :=
    bigSep_elim (Finset.mem_univ ck)
  unfold records
  iintro ⟨H, -⟩
  iapply h; iexact H
theorem reached_at (ck : Dev nD × Ck) : records m ρ K ⊢ reached ER (kcell ck) 0 := by
  have h : (bigSep Finset.univ fun ck : Dev nD × Ck => (reached ER (kcell ck) 0 : sProp 𝕄)) ⊢ reached ER (kcell ck) 0 :=
    bigSep_elim (Finset.mem_univ ck)
  unfold records
  iintro ⟨-, H⟩
  iapply h; iexact H

end Cert.KernelIdeal.Run

end
-- ==== Proof.KernelIdealSteps.lean ====
/- One step of a device's run each: a signal, a copy, a wait, a load or store of a group of blocks. -/
module

public import proofs.«01_k».proof.Proof.KernelIdealProtocol
public import Idealize.ShloMosaic.Lib.Pipeline.ValueKit.Geometry

@[expose] public section

noncomputable section

namespace Cert.KernelIdeal.Run

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Signals -/

/-- What the signal to the device `o + 1` places on spends. -/
def sigBit (c : Dev nD) (o : Fin 7) : sProp 𝕄 := iprop(dutyTok ER (barCell (rotd c o)) 0 c ∗ ∃ f, regPts c {rotd c o} f)

def sigLeft (c : Dev nD) (l : List (Fin 7)) : sProp 𝕄 :=
  iprop(Owe c (owedL (barsL c l ++ recvsL c all7)) ∗ allOf (sigBit c) l)

theorem step_signal {α : Type} {Q : α → sProp 𝕄} {k : PUnit → Prog (TpuEff nD τ sig (Elt F) Λ₀ .tc) α} (c n : Dev nD) (o : Fin 7) (l : List (Fin 7)) (hn : n = rotd c o) :
    iprop(records m ρ K ∗ sigLeft c (o :: l))
      ⊢ iprop((sigLeft c l -∗ Wp c (k ⟨⟩) Q) -∗ Wp c (.op (.semSignal (n, .tc) barS (1#32).toInt) k) Q) := by
  subst hn
  unfold sigLeft Owe
  rw [allOf_cons]
  unfold sigBit
  rw [show (1#32 : BitVec 32).toInt = ((1 : ℕ) : ℤ) by decide]
  iintro ⟨#HR, ⟨%W, HO⟩, ⟨Ht, Hf⟩, Hl⟩ Hk
  iapply (Rounds.wp_signal 𝒱₀ ER (rd m ρ) (c : Thread nD τ) none (dst := (rotd c o : Thread nD τ)) (κ := K (rotd c o, none))
      (d := c) (by rw [show (rd (F := F) m ρ).duties (barCell (rotd c o)) 0 = _ from duties_cell m ρ (rotd c o) none]
                   exact Finset.mem_erase.mpr ⟨(rotd_ne c o).symm, Finset.mem_univ _⟩)
      (amount_bar m ρ (rotd c o) c) () (owedL (barsL c l ++ recvsL c all7)) rfl)
    $$ [HO Ht Hf]
  · isplitr; · iapply (inv_at m ρ K (rotd c o, none)); iexact HR
    isplitl [HO]; · iexact HO
    isplitl [Ht]; · iexact Ht
    isplitl [Hf]
    · rw [show (rd (F := F) m ρ).payload (barCell (rotd c o)) 0 c = _ from payload_cell m ρ (rotd c o) none c]
      unfold payOf; iexact Hf
    · iapply (reached_at m ρ K (rotd c o, none)); iexact HR
  iintro HO
  iapply Hk
  isplitl [HO]
  · iexists _; iexact HO
  iexact Hl

/-- The barrier wait: the place for its copy in every other device's buffer. -/
theorem step_barrier {α : Type} {Q : α → sProp 𝕄} {k : PUnit → Prog (TpuEff nD τ sig (Elt F) Λ₀ .tc) α} (c : Dev nD) :
    iprop(records m ρ K ∗ levAts L lv ∗ cred (tallyAt (barCell c) () 7) ∗ Owe c (owedL (recvsL c all7)) ∗ atPos ER (barCell c) 0 ∅ 0)
      ⊢ iprop(((Owe c (owedL (recvsL c all7)) ∗ semVal (barCell c) 0 ∗ allOf (fun i : Fin 7 => iprop(∃ f, regPts (xord c i) {c} f)) all7) -∗ Wp c (k ⟨⟩) Q)
        -∗ Wp c (.op (.semWait barS (7#32).toInt) k) Q) := by
  unfold Owe
  rw [show (7#32 : BitVec 32).toInt = ((7 : ℕ) : ℤ) by decide]
  iintro ⟨#HR, #Hlev, Hc, ⟨%W, HO⟩, Hat⟩ Hk
  iapply (Rounds.wp_wait_rest_token 𝒱₀ ER (rd m ρ) (c : Thread nD τ) none (κ := K (c, none))
      (wpE_semWait_eq 𝒱₀ (c : Thread nD τ) none Set.univ) (Set.mem_univ _) () (O := owedL (recvsL c all7)) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ (K (c, none))) (fun h => h) (R := 0 + 1) (duties_later m ρ (barCell c))) $$ [Hat] with Hz
  · isplitr; · iapply (inv_at m ρ K (c, none)); iexact HR
    iexact Hat
  iapply Hk
  isplitl [HO]; · iexists _; iexact HO
  isplitl [Hz]; · iexact Hz
  iexact Hp

/-! ## Copies -/

/-- The kernel's offset of a device's block. -/
theorem off3_rows (j : Dev nD) : (Rect.unit (s := S1024x64) (k0_off3 j) S128x64.size (k0_off3_inb j)).set = rowsOf {j} := by
  rw [← seg_one j]
  exact rect_rows 1 j.val Nat.one_pos (k0_off3_eq j) (k0_off3_inb j)

theorem slot_set (j : Dev nD) : (slotM j).view.set = rowsOf {j} := (View.set_slice_whole _ _).trans (off3_rows j)

/-- An entry of a rectangle of the gathering buffer, placed. -/
theorem emb_rows (h p : ℕ) {off : Fin 2 → ℕ} (hoff : off = ![h * p, 0]) (inb : ∀ a, off a + (Blk h).size a ≤ S1024x64.size a) (y : (Blk h).Idx) :
    ((View.whole cc0_scratch0 : View sig .tc _ _ _).slice (Rect.unit (s := S1024x64) off (Blk h).size inb)).emb y
      = ix 1024 (h * p + row y) (col y) := by
  subst hoff
  have hb : h * p + h ≤ 1024 := inb 0
  have hy : row y < h := row_lt y
  refine (ix_ext 1024 ?_ ?_).symm
  · exact (Nat.mod_eq_of_lt (by omega)).trans
      (ValueKit.view_emb_slice_whole_unit_val cc0_scratch0 ![h * p, 0] (Blk h).size inb y (0 : Fin 2)).symm
  · exact Fin.ext ((ValueKit.view_emb_slice_whole_unit_val cc0_scratch0 ![h * p, 0] (Blk h).size inb y (1 : Fin 2)).trans (Nat.zero_add _)).symm

theorem write_rows (h p : ℕ) {off : Fin 2 → ℕ} (hoff : off = ![h * p, 0]) (inb : ∀ a, off a + (Blk h).size a ≤ S1024x64.size a)
    (f g : FVec F S1024x64 .bf16) (w : FVec F (Blk h) .bf16) (hw : w = gather h p g) (x : S1024x64.Idx)
    (hx : x ∈ (Rect.unit (s := S1024x64) off (Blk h).size inb).set) :
    ((View.whole cc0_scratch0 : View sig .tc _ _ _).slice (Rect.unit (s := S1024x64) off (Blk h).size inb)).write (Elt F) f w Finset.univ x = g x := by
  rw [← View.set_slice_whole cc0_scratch0] at hx
  unfold View.set at hx
  obtain ⟨y, -, rfl⟩ := Finset.mem_map.mp hx
  rw [View.write_emb_of_mem _ _ (Finset.mem_univ y), emb_rows h p hoff inb y, hw]
  rfl

/-- The landed copy: its block of the gathered rows. -/
theorem landed_eq (c : Dev nD) (fd : FVec F S1024x64 .bf16) (x : S1024x64.Idx) (hx : x ∈ rowsOf {c}) :
    (slotM c).view.write (Elt F) fd ((bM : Memref sig .tc .vmem S128x64 .bf16).view.read (Elt F) (vloc m ρ c)) Finset.univ x = G0 m ρ x := by
  have hb : (bM : Memref sig .tc .vmem S128x64 .bf16).view.read (Elt F) (vloc m ρ c) = vloc m ρ c := View.read_whole cc0_scratch1 _
  rw [hb]
  rw [← off3_rows c] at hx
  exact write_rows 128 c.val (k0_off3_eq c) (k0_off3_inb c) fd (G0 m ρ) (vloc m ρ c) (gather_lvl0 _ c).symm x hx

/-- What copy `i` spends. -/
def copyBit (c : Dev nD) (i : Fin 7) : sProp 𝕄 :=
  iprop(dutyTok ER (sendCell c i) 0 c ∗ dutyTok ER (recvCell (xord c i) c) 0 c ∗ bufPts c (shr i) (vloc m ρ c) ∗ ∃ f, regPts (xord c i) {c} f)

/-- The credit copy `i` returns. -/
def sendCred (c : Dev nD) (i : Fin 7) : sProp 𝕄 := cred (tallyAt (sendCell c i) () N)

def copyLeft (c : Dev nD) (l acc : List (Fin 7)) : sProp 𝕄 :=
  iprop(Owe c (owedL (recvsL c l)) ∗ allOf (copyBit m ρ c) l ∗ allOf (sendCred c) acc)

theorem step_copy {α : Type} {Q : α → sProp 𝕄} {k : PUnit → Prog (TpuEff nD τ sig (Elt F) Λ₀ .tc) α} (c n : Dev nD) (i : Fin 7) (l acc : List (Fin 7))
    (hn : n = xord c i) {sS rS : DmaSem sig} (hs : sS = sendS i) (hr : rS = recvS c)
    {hsc : (slotM c : Memref sig (Dev.tc n : Thread nD τ).2.kind .vmem S128x64 .bf16).view.ref.isScScratch = false}
    {hsrc : (bM : Memref sig .tc .vmem S128x64 .bf16).view.WordExact} {hdst : (slotM c).view.WordExact}
    {hsem : DmaTarget.Typed .vmem (.dma rS) (.remote (Dev.tc n : Thread nD τ) (slotM c) (.dma sS) hsc)} :
    iprop(records m ρ K ∗ copyLeft m ρ c (i :: l) acc)
      ⊢ iprop((copyLeft m ρ c l (i :: acc) -∗ Wp c (k ⟨⟩) Q)
        -∗ Wp c (.op (.enqueueDma bM (.remote (Dev.tc n : Thread nD τ) (slotM c) (.dma sS) hsc) (.dma rS) hsrc hdst hsem) k) Q) := by
  subst hn hs hr
  unfold copyLeft Owe
  rw [allOf_cons, allOf_cons]
  unfold copyBit sendCred
  iintro ⟨#HR, ⟨%W, HO⟩, ⟨⟨Ht1, Ht2, Hb, ⟨%fd, Hd⟩⟩, Hl⟩, Ha⟩ Hk
  iapply (Rounds.wp_send_pointsTo 𝒱₀ ER (rd m ρ) (c : Thread nD τ) none (κ₁ := K (c, some (.inl i))) (κ₂ := K (xord c i, some (.inr c)))
      (c' := (Dev.tc (xord c i) : Thread nD τ)) (src := bM) (dst := slotM c) (sS := .dma (sendS i)) (sem := .dma (recvS c))
      (r₁ := 0) (r₂ := 0) (d₁ := c) (d₂ := c) (fd := fd) (fs := vloc m ρ c) (q := shr i)
      (by rw [show (rd (F := F) m ρ).duties (sendCell c i) 0 = _ from duties_cell m ρ c (some (.inl i))]; exact Finset.mem_singleton_self _)
      (by rw [show (rd (F := F) m ρ).duties (recvCell (xord c i) c) 0 = _ from (duties_cell m ρ (xord c i) (some (.inr c))).trans (if_neg (xord_ne c i).symm)]
          exact Finset.mem_singleton_self _)
      () () N rfl (amount_xfer m ρ c c (.inl i)) (amount_xfer m ρ (xord c i) c (.inr c)) (owedL (recvsL c l)) rfl (W := W)
      (by rw [show (rd (F := F) m ρ).payload (sendCell c i) 0 c = _ from payload_cell m ρ c (some (.inl i)) c]
          unfold payOf bufPts; rw [View.set_whole])
      (by rw [show (rd (F := F) m ρ).payload (recvCell (xord c i) c) 0 c = _ from payload_cell m ρ (xord c i) (some (.inr c)) c]
          unfold payOf regPts
          rw [slot_set]
          exact Entails.of_eq (pointsTo_congr fun x hx => landed_eq m ρ c fd x hx)))
    $$ [HO Ht1 Ht2 Hb Hd]
  · isplitr; · iapply (inv_at m ρ K (c, some (.inl i))); iexact HR
    isplitr; · iapply (inv_at m ρ K (xord c i, some (.inr c))); iexact HR
    isplitl [Hb]; · unfold bufPts; rw [View.set_whole]; iexact Hb
    isplitl [Hd]; · unfold regPts; rw [slot_set]; iexact Hd
    isplitl [HO]; · iexact HO
    isplitl [Ht1]; · iexact Ht1
    isplitr; · iapply (reached_at m ρ K (c, some (.inl i))); iexact HR
    isplitl [Ht2]; · iexact Ht2
    iapply (reached_at m ρ K (xord c i, some (.inr c))); iexact HR
  iintro ⟨Hc, HO⟩
  iapply Hk
  isplitl [HO]; · iexists _; iexact HO
  isplitl [Hl]; · iexact Hl
  isplitl [Hc] <;> iassumption

/-! ## Waits of copies -/

def recvBit (c : Dev nD) (i : Fin 7) : sProp 𝕄 :=
  iprop(cred (tallyAt (recvCell c (xord c i)) () N) ∗ atPos ER (recvCell c (xord c i)) 0 ∅ 0)
def recvDone (c : Dev nD) (i : Fin 7) : sProp 𝕄 := semVal (recvCell c (xord c i)) 0
def recvLeft (c : Dev nD) (l acc : List (Fin 7)) : sProp 𝕄 :=
  iprop(Owe c 0 ∗ allOf (recvBit c) l ∗ allOf (recvDone c) acc)

theorem step_recv {α : Type} {Q : α → sProp 𝕄} {k : PUnit → Prog (TpuEff nD τ sig (Elt F) Λ₀ .tc) α} (c : Dev nD) (i : Fin 7) (l acc : List (Fin 7))
    {rS : DmaSem sig} (hr : rS = recvS (xord c i)) {src dst : Memref sig .tc .vmem S128x64 .bf16} {hsrc : src.view.WordExact} {hdst : dst.view.WordExact}
    (hN : dst.view.dmaCredit = N) :
    iprop(records m ρ K ∗ recvLeft c (i :: l) acc)
      ⊢ iprop(((recvLeft c l (i :: acc) ∗ regPts c {xord c i} (G0 m ρ)) -∗ Wp c (k ⟨⟩) Q)
        -∗ Wp c (.op (.waitDma2 rS src dst hsrc hdst) k) Q) := by
  subst hr
  unfold recvLeft Owe
  rw [allOf_cons, allOf_cons]
  unfold recvBit recvDone
  iintro ⟨#HR, ⟨%W, HO⟩, ⟨⟨Hc, Hat⟩, Hl⟩, Ha⟩ Hk
  iapply (Rounds.wp_wait_rest_token 𝒱₀ ER (rd m ρ) (c : Thread nD τ) none (κ := K (c, some (.inr (xord c i))))
      (wpE_waitDma2_eq 𝒱₀ (c : Thread nD τ) none Set.univ) (Set.mem_univ _) () (O := 0) (W := W) (R := 0) (m := 0) (T := ∅)
      (by rw [Nat.zero_add, hN, expect_recv m ρ c _ (xord_ne c i)])) $$ [Hc HO Hat]
  · isplitr; · iapply (inv_at m ρ K (c, some (.inr (xord c i)))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c _ (xord_ne c i))) $$ Hpay
  imod (Rounds.cell_close ER (rd m ρ) (Set.mem_univ (K (c, some (.inr (xord c i))))) (fun h => h) (R := 0 + 1) (duties_later m ρ (recvCell c (xord c i)))) $$ [Hat] with Hz
  · isplitr; · iapply (inv_at m ρ K (c, some (.inr (xord c i)))); iexact HR
    iexact Hat
  iapply Hk
  isplitr [Hp]
  · isplitl [HO]; · iexists _; iexact HO
    isplitl [Hl]; · iexact Hl
    isplitl [Hz] <;> iassumption
  iexact Hp

def sendBit (c : Dev nD) (i : Fin 7) : sProp 𝕄 := iprop(sendCred c i ∗ atPos ER (sendCell c i) 0 ∅ 0)
def sendDone (c : Dev nD) (i : Fin 7) : sProp 𝕄 := iprop(bufPts c (shr i) (vloc m ρ c) ∗ semVal (sendCell c i) 0)
def sendLeft (c : Dev nD) (l acc : List (Fin 7)) : sProp 𝕄 :=
  iprop(Owe c 0 ∗ allOf (sendBit c) l ∗ allOf (sendDone m ρ c) acc)

theorem step_sent {α : Type} {Q : α → sProp 𝕄} {k : PUnit → Prog (TpuEff nD τ sig (Elt F) Λ₀ .tc) α} (c : Dev nD) (i : Fin 7) (l acc : List (Fin 7))
    {sS : DmaSem sig} (hs : sS = sendS i) {src dst : Memref sig .tc .vmem S128x64 .bf16} {hsrc : src.view.WordExact} {hdst : dst.view.WordExact}
    (hN : dst.view.dmaCredit = N) :
    iprop(records m ρ K ∗ sendLeft m ρ c (i :: l) acc)
      ⊢ iprop((sendLeft m ρ c l (i :: acc) -∗ Wp c (k ⟨⟩) Q)
        -∗ Wp c (.op (.waitDma2 sS src dst hsrc hdst) k) Q) := by
  subst hs
  unfold sendLeft Owe
  rw [allOf_cons, allOf_cons]
  unfold sendBit sendDone sendCred
  iintro ⟨#HR, ⟨%W, HO⟩, ⟨⟨Hc, Hat⟩, Hl⟩, Ha⟩ Hk
  iapply (Rounds.wp_wait_rest_token 𝒱₀ ER (rd m ρ) (c : Thread nD τ) none (κ := K (c, some (.inl i)))
      (wpE_waitDma2_eq 𝒱₀ (c : Thread nD τ) none Set.univ) (Set.mem_univ _) () (O := 0) (W := W) (R := 0) (m := 0) (T := ∅)
      (by rw [Nat.zero_add, hN, expect_send m ρ c i])) $$ [Hc HO Hat]
  · isplitr; · iapply (inv_at m ρ K (c, some (.inl i))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c i)) $$ Hpay
  imod (Rounds.cell_close ER (rd m ρ) (Set.mem_univ (K (c, some (.inl i)))) (fun h => h) (R := 0 + 1) (duties_later m ρ (sendCell c i))) $$ [Hat] with Hz
  · isplitr; · iapply (inv_at m ρ K (c, some (.inl i))); iexact HR
    iexact Hat
  iapply Hk
  isplitl [HO]; · iexists _; iexact HO
  isplitl [Hl]; · iexact Hl
  isplitr [Ha]
  · isplitl [Hp] <;> iassumption
  iexact Ha

/-! ## Loads and stores of groups of blocks -/

theorem step_load {α : Type} {Q : α → sProp 𝕄} (c : Dev nD) (h k p : ℕ) (hk : 0 < k) (hh : h = 128 * k)
    {kk : Vec F (Blk h) .bf16 → Prog (TpuEff nD τ sig (Elt F) Λ₀ .tc) α}
    {off : Fin 2 → ℕ} (hoff : off = ![h * p, 0]) {inb : ∀ a, off a + (Blk h).size a ≤ S1024x64.size a}
    {hl : (gM : Memref sig .tc .vmem S1024x64 .bf16).view.LoadsAt (Rect.unit (s := S1024x64) off (Blk h).size inb).toLoadRect}
    {S : Finset (Dev nD)} (hS : seg k p ⊆ S) (f : FVec F S1024x64 .bf16) :
    regPts c S f ⊢ iprop((regPts c S f -∗ Wp c (kk (gather h p f)) Q)
      -∗ Wp c (.op (.load gM (Rect.unit (s := S1024x64) off (Blk h).size inb).toLoadRect hl) kk) Q) := by
  have hset : (gM : Memref sig .tc .vmem S1024x64 .bf16).view.setOn (Rect.unit (s := S1024x64) off (Blk h).size inb).toLoadRect.set ⊆ rowsOf S := by
    intro x hx
    have hx' : x ∈ (Rect.unit (s := S1024x64) off (Blk h).size inb).set := by
      unfold View.setOn at hx
      obtain ⟨y, hy, rfl⟩ := Finset.mem_map.mp hx
      exact hy
    subst hh
    rw [rect_rows k p hk hoff inb] at hx'
    exact mem_rowsOf.mpr (hS (mem_rowsOf.mp hx'))
  have hread : (gM : Memref sig .tc .vmem S1024x64 .bf16).view.readAt (Elt F) (Rect.unit (s := S1024x64) off (Blk h).size inb).toLoadRect f = gather h p f := by
    funext y
    exact congrArg f (emb_rows h p hoff inb y)
  unfold regPts
  iintro Hr Hk
  iapply (wp_load 𝒱₀ (c : Thread nD τ) none Set.univ (m := gM) (S := rowsOf S) hset) $$ Hr
  iintro Hr
  rw [hread]
  iapply Hk
  iexact Hr

theorem step_store {α : Type} {Q : α → sProp 𝕄} (c : Dev nD) (h k p : ℕ) (hk : 0 < k) (hh : h = 128 * k)
    {kk : PUnit → Prog (TpuEff nD τ sig (Elt F) Λ₀ .tc) α}
    {off : Fin 2 → ℕ} (hoff : off = ![h * p, 0]) {inb : ∀ a, off a + (Blk h).size a ≤ S1024x64.size a}
    {w : Vec F (Blk h) .bf16}
    {hx : ((gM : Memref sig .tc .vmem S1024x64 .bf16).access (Rect.unit (s := S1024x64) off (Blk h).size inb)).Stores Finset.univ}
    {hm : (Finset.univ : Finset (Rect.unit (s := S1024x64) off (Blk h).size inb).shape.Idx) = Finset.univ ∨ ∀ a, (Rect.unit (s := S1024x64) off (Blk h).size inb).stride a = 1}
    (f g : FVec F S1024x64 .bf16) (hw : w = gather h p g) :
    regPts c (seg k p) f ⊢ iprop((regPts c (seg k p) g -∗ Wp c (kk ⟨⟩) Q)
      -∗ Wp c (.op (.store gM (Rect.unit (s := S1024x64) off (Blk h).size inb) w Finset.univ hx hm) kk) Q) := by
  have hset : (Rect.unit (s := S1024x64) off (Blk h).size inb).set = rowsOf (seg k p) := by
    subst hh; exact rect_rows k p hk hoff inb
  unfold regPts
  iintro Hr Hk
  iapply (wp_store 𝒱₀ (c : Thread nD τ) none Set.univ (m := gM) (r := Rect.unit (s := S1024x64) off (Blk h).size inb) (S := rowsOf (seg k p)) (Mk := Finset.univ)
    (by rw [← hset]; exact subset_of_eq (View.set_slice_whole cc0_scratch0 _))) $$ Hr
  iintro Hr
  iapply Hk
  ihave Hr' := (Entails.of_eq (pointsTo_congr (g := g) fun x hxx => write_rows h p hoff inb f g w hw x (hset ▸ hxx))) $$ Hr
  iexact Hr'

/-- Two disjoint sets of blocks at the same contents are one. -/
theorem reg_join (c : Dev nD) (S T U : Finset (Dev nD)) (f : FVec F S1024x64 .bf16) (hd : Disjoint S T) (hu : S ∪ T = U) :
    iprop(regPts c S f ∗ regPts c T f) ⊢ (regPts c U f : sProp 𝕄) := by
  subst hu
  unfold regPts
  rw [rowsOf_union]
  exact (pointsTo_union (rowsOf_disjoint hd)).2

end Cert.KernelIdeal.Run

end
-- ==== Proof.KernelIdealPlaces.lean ====
/- Where things are on a device: the devices addressed, the semaphores, the rows and the words the kernel computes
   from its number, and how the groups of blocks lie in the gathering buffer. -/
module

public import proofs.«01_k».proof.Proof.KernelIdealSteps

@[expose] public section

set_option maxRecDepth 65536

noncomputable section

namespace Cert.KernelIdeal.Run

open Cert.KernelIdeal Cert.KernelIdeal.Gen Cert.Bitonic

open Idealize.ShloMosaic
open Idealize.ShloMosaic.TcCoe

theorem dev1_at (c : Dev nD) : (⟨k0_dev1 c, k0_dev1_lt c⟩ : Dev nD) = rotd c 0 := by revert c; decide
theorem dev2_at (c : Dev nD) : (⟨k0_dev2 c, k0_dev2_lt c⟩ : Dev nD) = rotd c 1 := by revert c; decide
theorem dev3_at (c : Dev nD) : (⟨k0_dev3 c, k0_dev3_lt c⟩ : Dev nD) = rotd c 2 := by revert c; decide
theorem dev4_at (c : Dev nD) : (⟨k0_dev4 c, k0_dev4_lt c⟩ : Dev nD) = rotd c 3 := by revert c; decide
theorem dev5_at (c : Dev nD) : (⟨k0_dev5 c, k0_dev5_lt c⟩ : Dev nD) = rotd c 4 := by revert c; decide
theorem dev6_at (c : Dev nD) : (⟨k0_dev6 c, k0_dev6_lt c⟩ : Dev nD) = rotd c 5 := by revert c; decide
theorem dev7_at (c : Dev nD) : (⟨k0_dev7 c, k0_dev7_lt c⟩ : Dev nD) = rotd c 6 := by revert c; decide
theorem dev8_at (c : Dev nD) : (⟨k0_dev8 c, k0_dev8_lt c⟩ : Dev nD) = xord c 0 := by revert c; decide
theorem dev9_at (c : Dev nD) : (⟨k0_dev9 c, k0_dev9_lt c⟩ : Dev nD) = xord c 1 := by revert c; decide
theorem dev10_at (c : Dev nD) : (⟨k0_dev10 c, k0_dev10_lt c⟩ : Dev nD) = xord c 2 := by revert c; decide
theorem dev11_at (c : Dev nD) : (⟨k0_dev11 c, k0_dev11_lt c⟩ : Dev nD) = xord c 3 := by revert c; decide
theorem dev12_at (c : Dev nD) : (⟨k0_dev12 c, k0_dev12_lt c⟩ : Dev nD) = xord c 4 := by revert c; decide
theorem dev13_at (c : Dev nD) : (⟨k0_dev13 c, k0_dev13_lt c⟩ : Dev nD) = xord c 5 := by revert c; decide
theorem dev14_at (c : Dev nD) : (⟨k0_dev14 c, k0_dev14_lt c⟩ : Dev nD) = xord c 6 := by revert c; decide

theorem recv_sem (c : Dev nD) : ((cc0_scratch3.slice (Rect.unit (s := S8) (k0_off2 c) S1.size (k0_off2_inb c))).squeeze S_ squeezes_S1_S_).sem = recvS c := by
  revert c; decide

theorem wait_sem (c : Dev nD) (i : Fin 7) :
    ((cc0_scratch3.slice (Rect.unit (s := S8) (k0_off4 c (BitVec.ofNat 32 (1 + i.val))) S1.size (k0_off4_inb c i))).squeeze S_ squeezes_S1_S_).sem
      = recvS (xord c i) := by
  revert c i; decide

theorem wait_sem1 (c : Dev nD) :
    ((cc0_scratch3.slice (Rect.unit (s := S8) (k0_off4 c 1#32) S1.size (k0_off4_inb c 0))).squeeze S_ squeezes_S1_S_).sem = recvS (xord c 0) := wait_sem c 0
theorem wait_sem2 (c : Dev nD) :
    ((cc0_scratch3.slice (Rect.unit (s := S8) (k0_off4 c 2#32) S1.size (k0_off4_inb c 1))).squeeze S_ squeezes_S1_S_).sem = recvS (xord c 1) := wait_sem c 1
theorem wait_sem3 (c : Dev nD) :
    ((cc0_scratch3.slice (Rect.unit (s := S8) (k0_off4 c 3#32) S1.size (k0_off4_inb c 2))).squeeze S_ squeezes_S1_S_).sem = recvS (xord c 2) := wait_sem c 2
theorem wait_sem4 (c : Dev nD) :
    ((cc0_scratch3.slice (Rect.unit (s := S8) (k0_off4 c 4#32) S1.size (k0_off4_inb c 3))).squeeze S_ squeezes_S1_S_).sem = recvS (xord c 3) := wait_sem c 3
theorem wait_sem5 (c : Dev nD) :
    ((cc0_scratch3.slice (Rect.unit (s := S8) (k0_off4 c 5#32) S1.size (k0_off4_inb c 4))).squeeze S_ squeezes_S1_S_).sem = recvS (xord c 4) := wait_sem c 4
theorem wait_sem6 (c : Dev nD) :
    ((cc0_scratch3.slice (Rect.unit (s := S8) (k0_off4 c 6#32) S1.size (k0_off4_inb c 5))).squeeze S_ squeezes_S1_S_).sem = recvS (xord c 5) := wait_sem c 5
theorem wait_sem7 (c : Dev nD) :
    ((cc0_scratch3.slice (Rect.unit (s := S8) (k0_off4 c 7#32) S1.size (k0_off4_inb c 6))).squeeze S_ squeezes_S1_S_).sem = recvS (xord c 6) := wait_sem c 6

theorem off1_at (c : Dev nD) : k0_off1 c = ![128 * c.val, 0] := k0_off1_eq c
theorem off6_at (c : Dev nD) : k0_off6 c = ![256 * (c.val / 2), 0] := by revert c; decide
theorem off7_at (c : Dev nD) (i : Fin 3) : k0_off7 c (BitVec.ofNat 32 (1 + i.val)) = ![256 * ((c.val / 2) ^^^ (i.val + 1)), 0] := by revert c i; decide
theorem off7_at1 (c : Dev nD) : k0_off7 c 1#32 = ![256 * ((c.val / 2) ^^^ 1), 0] := off7_at c 0
theorem off7_at2 (c : Dev nD) : k0_off7 c 2#32 = ![256 * ((c.val / 2) ^^^ 2), 0] := off7_at c 1
theorem off7_at3 (c : Dev nD) : k0_off7 c 3#32 = ![256 * ((c.val / 2) ^^^ 3), 0] := off7_at c 2
theorem off8_at (c : Dev nD) : k0_off8 c = ![512 * (c.val / 4), 0] := by revert c; decide
theorem off9_at (c : Dev nD) : k0_off9 c = ![512 * ((c.val / 4) ^^^ 1), 0] := by revert c; decide

theorem word_own (c : Dev nD) : Scalar.remsi (Scalar.divsi (Dev.word c) 1#32) 8#32 = devw (BitVec.ofNat 32 c.val) := by revert c; decide
theorem word_pair (c : Dev nD) : Scalar.muli (floorDiv (Scalar.remsi (Scalar.divsi (Dev.word c) 1#32) 8#32) 2#32) 256#32 = BitVec.ofNat 32 (256 * (c.val / 2)) := by
  revert c; decide
theorem word_pairs (c : Dev nD) (i : Fin 3) :
    Scalar.muli (Scalar.xori (floorDiv (Scalar.remsi (Scalar.divsi (Dev.word c) 1#32) 8#32) 2#32) (BitVec.ofNat 32 (i.val + 1))) 256#32
      = BitVec.ofNat 32 (256 * ((c.val / 2) ^^^ (i.val + 1))) := by
  revert c i; decide
theorem word_quad (c : Dev nD) : Scalar.muli (floorDiv (Scalar.remsi (Scalar.divsi (Dev.word c) 1#32) 8#32) 4#32) 512#32 = BitVec.ofNat 32 (512 * (c.val / 4)) := by
  revert c; decide
theorem word_quads (c : Dev nD) :
    Scalar.muli (Scalar.xori (floorDiv (Scalar.remsi (Scalar.divsi (Dev.word c) 1#32) 8#32) 4#32) 1#32) 512#32 = BitVec.ofNat 32 (512 * ((c.val / 4) ^^^ 1)) := by
  revert c; decide

theorem pair_lt (c : Dev nD) : c.val / 2 < 4 := by revert c; decide
theorem pairs_lt (c : Dev nD) (i : Fin 3) : (c.val / 2) ^^^ (i.val + 1) < 4 := by revert c i; decide
theorem quad_lt (c : Dev nD) : c.val / 4 < 2 := by revert c; decide
theorem quads_lt (c : Dev nD) : (c.val / 4) ^^^ 1 < 2 := by revert c; decide

theorem one_pair (c : Dev nD) : Disjoint ({c} : Finset (Dev nD)) {xord c 0} ∧ ({c} : Finset (Dev nD)) ∪ {xord c 0} = seg 2 (c.val / 2) := by
  revert c; decide
theorem pair1 (c : Dev nD) : Disjoint ({xord c 1} : Finset (Dev nD)) {xord c 2} ∧ ({xord c 1} : Finset (Dev nD)) ∪ {xord c 2} = seg 2 ((c.val / 2) ^^^ 1) := by
  revert c; decide
theorem pair2 (c : Dev nD) : Disjoint ({xord c 3} : Finset (Dev nD)) {xord c 4} ∧ ({xord c 3} : Finset (Dev nD)) ∪ {xord c 4} = seg 2 ((c.val / 2) ^^^ 2) := by
  revert c; decide
theorem pair3 (c : Dev nD) : Disjoint ({xord c 5} : Finset (Dev nD)) {xord c 6} ∧ ({xord c 5} : Finset (Dev nD)) ∪ {xord c 6} = seg 2 ((c.val / 2) ^^^ 3) := by
  revert c; decide
theorem one_quad (c : Dev nD) : Disjoint (seg 2 (c.val / 2)) (seg 2 ((c.val / 2) ^^^ 1)) ∧ seg 2 (c.val / 2) ∪ seg 2 ((c.val / 2) ^^^ 1) = seg 4 (c.val / 4) := by
  revert c; decide
theorem quad1 (c : Dev nD) : Disjoint (seg 2 ((c.val / 2) ^^^ 2)) (seg 2 ((c.val / 2) ^^^ 3)) ∧ seg 2 ((c.val / 2) ^^^ 2) ∪ seg 2 ((c.val / 2) ^^^ 3) = seg 4 ((c.val / 4) ^^^ 1) := by
  revert c; decide
theorem all_quads (c : Dev nD) : Disjoint (seg 4 (c.val / 4)) (seg 4 ((c.val / 4) ^^^ 1)) ∧ seg 4 (c.val / 4) ∪ seg 4 ((c.val / 4) ^^^ 1) = seg 8 0 := by
  revert c; decide
theorem seg_all : seg 8 0 = Finset.univ := by decide

end Cert.KernelIdeal.Run

end
-- ==== Proof.KernelIdealParts.lean ====
/- The printed parts of the kernel's body over the stages of `Stages.lean`: each is the printed part
   at the values the parts before it hand over, by unfolding. -/
module

public import proofs.«01_k».proof.Proof.Stages
public import proofs.«01_k».proof.Proof.Gen.KernelIdeal
public import proofs.«01_k».proof.Proof.Gen.KernelIdeal.Skeleton

@[expose] public section

set_option maxRecDepth 65536

noncomputable section

namespace Cert.KernelIdeal.Parts

open Idealize.ShloMosaic Idealize.SL.Sem Cert.KernelIdeal Cert.KernelIdeal.Gen Cert.Bitonic

variable {F : FTy → Type} [FloatOps F]

variable (arg0 : Memref sig .tc .vmem S128x64 .bf16)
  (harg0 : arg0.IsWhole)
  (arg1 : Memref sig .tc .vmem S128x64 .f32)
  (harg1 : arg1.IsWhole)
  (arg2 : Memref sig .tc .vmem S1024x64 .bf16)
  (harg2 : arg2.IsWhole)
  (arg3 : Memref sig .tc .vmem S128x64 .bf16)
  (harg3 : arg3.IsWhole)
  (arg4 : DmaSems sig S7)
  (arg5 : DmaSems sig S8)

/-- Part 4 over the stages. -/
theorem part4_eq (w : BitVec 32) :
    k0_part4 arg0 harg0 arg1 harg1 arg2 harg2 arg3 harg3 arg4 arg5 w (Scalar.select (Scalar.cmpi .eq 2#32 0#32) 1#32 2#32) =
      (do
        let v106 : Vec F S128x64 .bf16 ← Prog.lift (.load arg0 (Rect.unit (s := S128x64) ![0, 0] S128x64.size inb_S128x64_S128x64_0_0).toLoadRect (View.loadsAt_vmem h_S128x64))
        pure ⟨(evenBit w), (loc_0 v106), rows64, (mateRow rotates_S64x128_d0 rows64 1#32 63#32 (loc_0 v106)), (xori (xori (clearAt rows64 1#32) (ups (evenBit w) 2#32)) (constantI S64x128 1 1#1)), (minimumf (loc_0 v106) (mateRow rotates_S64x128_d0 rows64 1#32 63#32 (loc_0 v106)))⟩ : Prog (TpuEff nD τ sig (Elt F) Λ₀ .tc) (Σ' (v105 : BitVec 1) (v110 : FVec F S64x128 .bf16) (v120 : IVec S64x128 32) (v135 : FVec F S64x128 .bf16) (v137 : IVec S64x128 1), FVec F S64x128 .bf16)) := rfl

/-- Part 5 over the stages. -/
theorem part5_eq (w : BitVec 32) (v106 : Vec F S128x64 .bf16) :
    k0_part5 arg0 harg0 arg1 harg1 arg2 harg2 arg3 harg3 arg4 arg5 (evenBit w) (loc_0 v106) rows64 (mateRow rotates_S64x128_d0 rows64 1#32 63#32 (loc_0 v106)) (xori (xori (clearAt rows64 1#32) (ups (evenBit w) 2#32)) (constantI S64x128 1 1#1)) (minimumf (loc_0 v106) (mateRow rotates_S64x128_d0 rows64 1#32 63#32 (loc_0 v106))) =
      (do
        pure ⟨(loc_3 w v106), (ups (evenBit w) 8#32), (broadcast S64x128 4#32)⟩ : Prog (TpuEff nD τ sig (Elt F) Λ₀ .tc) (Σ' (v172 : FVec F S64x128 .bf16) (v180 : IVec S64x128 1), IVec S64x128 32)) := rfl

/-- Part 6 over the stages. -/
theorem part6_eq (w : BitVec 32) (v106 : Vec F S128x64 .bf16) :
    k0_part6 arg0 harg0 arg1 harg1 arg2 harg2 arg3 harg3 arg4 arg5 (evenBit w) rows64 (loc_3 w v106) (ups (evenBit w) 8#32) (broadcast S64x128 4#32) =
      (do
        pure ⟨(loc_6 w v106), (ups (evenBit w) 16#32)⟩ : Prog (TpuEff nD τ sig (Elt F) Λ₀ .tc) (Σ' (v216 : FVec F S64x128 .bf16), IVec S64x128 1)) := rfl

/-- Part 7 over the stages. -/
theorem part7_eq (w : BitVec 32) (v106 : Vec F S128x64 .bf16) :
    k0_part7 arg0 harg0 arg1 harg1 arg2 harg2 arg3 harg3 arg4 arg5 rows64 (loc_6 w v106) (ups (evenBit w) 16#32) =
      (do
        pure ⟨(loc_9 w v106), (clearAt rows64 1#32), (dynamicRotate 0 63#32 none (loc_9 w v106) rotates_S64x128_d0), 1#32⟩ : Prog (TpuEff nD τ sig (Elt F) Λ₀ .tc) (Σ' (v260 : FVec F S64x128 .bf16) (v264 : IVec S64x128 1) (v265 : FVec F S64x128 .bf16), BitVec 32)) := rfl

/-- Part 8 over the stages. -/
theorem part8_eq (w : BitVec 32) (v106 : Vec F S128x64 .bf16) :
    k0_part8 arg0 harg0 arg1 harg1 arg2 harg2 arg3 harg3 arg4 arg5 (evenBit w) rows64 (ups (evenBit w) 16#32) (loc_9 w v106) (clearAt rows64 1#32) (dynamicRotate 0 63#32 none (loc_9 w v106) rotates_S64x128_d0) 1#32 =
      (do
        pure ⟨(ups (evenBit w) 32#32), (loc_12 w v106), (clearAt rows64 4#32), 60#32⟩ : Prog (TpuEff nD τ sig (Elt F) Λ₀ .tc) (Σ' (v280 : IVec S64x128 1) (v304 : FVec F S64x128 .bf16) (v308 : IVec S64x128 1), BitVec 32)) := rfl

/-- Part 9 over the stages. -/
theorem part9_eq (w : BitVec 32) (v106 : Vec F S128x64 .bf16) :
    k0_part9 arg0 harg0 arg1 harg1 arg2 harg2 arg3 harg3 arg4 arg5 (evenBit w) rows64 (ups (evenBit w) 32#32) (loc_12 w v106) (clearAt rows64 4#32) 60#32 =
      (do
        pure ⟨(loc_15 w v106), (ups (evenBit w) 64#32), (andi rows64 (broadcast S64x128 32#32)), (broadcast S64x128 0#32)⟩ : Prog (TpuEff nD τ sig (Elt F) Λ₀ .tc) (Σ' (v340 : FVec F S64x128 .bf16) (v348 : IVec S64x128 1) (v350 : IVec S64x128 32), IVec S64x128 32)) := rfl

/-- Part 10 over the stages. -/
theorem part10_eq (w : BitVec 32) (v106 : Vec F S128x64 .bf16) :
    k0_part10 arg0 harg0 arg1 harg1 arg2 harg2 arg3 harg3 arg4 arg5 rows64 (loc_15 w v106) (ups (evenBit w) 64#32) (andi rows64 (broadcast S64x128 32#32)) (broadcast S64x128 0#32) =
      (do
        pure ⟨(loc_18 w v106), (mateRow rotates_S64x128_d0 rows64 4#32 60#32 (loc_18 w v106)), (xori (xori (clearAt rows64 4#32) (ups (evenBit w) 64#32)) (constantI S64x128 1 1#1))⟩ : Prog (TpuEff nD τ sig (Elt F) Λ₀ .tc) (Σ' (v384 : FVec F S64x128 .bf16) (v391 : FVec F S64x128 .bf16), IVec S64x128 1)) := rfl

/-- Part 11 over the stages. -/
theorem part11_eq (w : BitVec 32) (v106 : Vec F S128x64 .bf16) :
    k0_part11 arg0 harg0 arg1 harg1 arg2 harg2 arg3 harg3 arg4 arg5 (evenBit w) rows64 (ups (evenBit w) 64#32) (loc_18 w v106) (mateRow rotates_S64x128_d0 rows64 4#32 60#32 (loc_18 w v106)) (xori (xori (clearAt rows64 4#32) (ups (evenBit w) 64#32)) (constantI S64x128 1 1#1)) =
      (do
        pure ⟨(loc_21 w v106), (ups (evenBit w) 128#32), (dynamicRotate 1 64#32 none (loc_21 w v106) rotates_S64x128_d1), (xori (xori (clearAt rows64 64#32) (ups (evenBit w) 128#32)) (constantI S64x128 1 1#1)), (minimumf (loc_21 w v106) (dynamicRotate 1 64#32 none (loc_21 w v106) rotates_S64x128_d1))⟩ : Prog (TpuEff nD τ sig (Elt F) Λ₀ .tc) (Σ' (v420 : FVec F S64x128 .bf16) (v428 : IVec S64x128 1) (v433 : FVec F S64x128 .bf16) (v435 : IVec S64x128 1), FVec F S64x128 .bf16)) := rfl

/-- Part 12 over the stages. -/
theorem part12_eq (w : BitVec 32) (v106 : Vec F S128x64 .bf16) :
    k0_part12 arg0 harg0 arg1 harg1 arg2 harg2 arg3 harg3 arg4 arg5 rows64 (loc_21 w v106) (ups (evenBit w) 128#32) (dynamicRotate 1 64#32 none (loc_21 w v106) rotates_S64x128_d1) (xori (xori (clearAt rows64 64#32) (ups (evenBit w) 128#32)) (constantI S64x128 1 1#1)) (minimumf (loc_21 w v106) (dynamicRotate 1 64#32 none (loc_21 w v106) rotates_S64x128_d1)) =
      (do
        pure ⟨(loc_25 w v106), (clearAt rows64 4#32), 60#32⟩ : Prog (TpuEff nD τ sig (Elt F) Λ₀ .tc) (Σ' (v474 : FVec F S64x128 .bf16) (v478 : IVec S64x128 1), BitVec 32)) := rfl

/-- Part 13 over the stages. -/
theorem part13_eq (d0 : Dev nD) (w : BitVec 32) (v106 : Vec F S128x64 .bf16) :
    k0_part13 arg0 harg0 arg1 harg1 arg2 harg2 arg3 harg3 arg4 arg5 d0 w rows64 (ups (evenBit w) 128#32) (loc_25 w v106) (clearAt rows64 4#32) 60#32 =
      (do
        let v516 : Vec F S128x64 .bf16 ← Prog.lift (.load arg2 (Rect.unit (s := S1024x64) (k0_off1 d0) S128x64.size (k0_off1_inb d0)).toLoadRect (View.loadsAt_vmem h_S128x64))
        Prog.lift (.store arg2 (Rect.unit (s := S1024x64) (k0_off1 d0) S128x64.size (k0_off1_inb d0)) (shapeCast S128x64 (locOut w v106) shapeCasts_S128x64_S128x64) Finset.univ (View.stores_vmem h_S128x64 (harg2.storeExact_slice rfl _ (k0_off1_packedbf16 d0)) (fun _ => rfl)) (.inl rfl))
        let v519 : Vec F S128x64 .bf16 ← Prog.lift (.load arg3 (Rect.unit (s := S128x64) ![0, 0] S128x64.size inb_S128x64_S128x64_0_0).toLoadRect (View.loadsAt_vmem h_S128x64))
        pure (shapeCast S128x64 (locOut w v106) shapeCasts_S128x64_S128x64) : Prog (TpuEff nD τ sig (Elt F) Λ₀ .tc) (FVec F S128x64 .bf16)) := rfl

/-- Part 15 over the stages. -/
theorem part15_eq (d0 : Dev nD) (w : BitVec 32) :
    k0_part15 arg0 harg0 arg1 harg1 arg2 harg2 arg3 harg3 arg4 arg5 d0 w =
      (do
        let v554 : Memref sig .tc .vmem S128x64 .bf16 := arg2.slice (Rect.unit (s := S1024x64) (k0_off3 d0) S128x64.size (k0_off3_inb d0)) (fun _ => rfl)
        let v550 : DmaSems sig S1 := arg4.slice (Rect.unit (s := S7) ![3] S1.size inb_S7_S1_3)
        let v551 : DmaSems sig S_ := v550.squeeze S_ squeezes_S1_S_
        let v552 : DmaSems sig S1 := arg5.slice (Rect.unit (s := S8) (k0_off2 d0) S1.size (k0_off2_inb d0))
        let v553 : DmaSems sig S_ := v552.squeeze S_ squeezes_S1_S_
        Prog.lift (.enqueueDma arg3 (.remote (Dev.tc (⟨k0_dev11 d0, k0_dev11_lt d0⟩ : Dev nD)) v554 (.dma v551.sem)) (.dma v553.sem) harg3.wordExact (harg2.wordExact_slice rfl _ (k0_off3_wordsbf16 d0)) ⟨⟨rfl, Or.inl rfl⟩, trivial⟩)
        let v558 : DmaSems sig S1 := arg4.slice (Rect.unit (s := S7) ![4] S1.size inb_S7_S1_4)
        let v559 : DmaSems sig S_ := v558.squeeze S_ squeezes_S1_S_
        let v560 : DmaSems sig S1 := arg5.slice (Rect.unit (s := S8) (k0_off2 d0) S1.size (k0_off2_inb d0))
        let v561 : DmaSems sig S_ := v560.squeeze S_ squeezes_S1_S_
        let v562 : Memref sig .tc .vmem S128x64 .bf16 := arg2.slice (Rect.unit (s := S1024x64) (k0_off3 d0) S128x64.size (k0_off3_inb d0)) (fun _ => rfl)
        Prog.lift (.enqueueDma arg3 (.remote (Dev.tc (⟨k0_dev12 d0, k0_dev12_lt d0⟩ : Dev nD)) v562 (.dma v559.sem)) (.dma v561.sem) harg3.wordExact (harg2.wordExact_slice rfl _ (k0_off3_wordsbf16 d0)) ⟨⟨rfl, Or.inl rfl⟩, trivial⟩)
        let v566 : DmaSems sig S1 := arg4.slice (Rect.unit (s := S7) ![5] S1.size inb_S7_S1_5)
        let v567 : DmaSems sig S_ := v566.squeeze S_ squeezes_S1_S_
        let v568 : DmaSems sig S1 := arg5.slice (Rect.unit (s := S8) (k0_off2 d0) S1.size (k0_off2_inb d0))
        let v569 : DmaSems sig S_ := v568.squeeze S_ squeezes_S1_S_
        let v570 : Memref sig .tc .vmem S128x64 .bf16 := arg2.slice (Rect.unit (s := S1024x64) (k0_off3 d0) S128x64.size (k0_off3_inb d0)) (fun _ => rfl)
        Prog.lift (.enqueueDma arg3 (.remote (Dev.tc (⟨k0_dev13 d0, k0_dev13_lt d0⟩ : Dev nD)) v570 (.dma v567.sem)) (.dma v569.sem) harg3.wordExact (harg2.wordExact_slice rfl _ (k0_off3_wordsbf16 d0)) ⟨⟨rfl, Or.inl rfl⟩, trivial⟩)
        let v574 : DmaSems sig S1 := arg4.slice (Rect.unit (s := S7) ![6] S1.size inb_S7_S1_6)
        let v575 : DmaSems sig S_ := v574.squeeze S_ squeezes_S1_S_
        let v576 : DmaSems sig S1 := arg5.slice (Rect.unit (s := S8) (k0_off2 d0) S1.size (k0_off2_inb d0))
        let v577 : DmaSems sig S_ := v576.squeeze S_ squeezes_S1_S_
        let v578 : Memref sig .tc .vmem S128x64 .bf16 := arg2.slice (Rect.unit (s := S1024x64) (k0_off3 d0) S128x64.size (k0_off3_inb d0)) (fun _ => rfl)
        Prog.lift (.enqueueDma arg3 (.remote (Dev.tc (⟨k0_dev14 d0, k0_dev14_lt d0⟩ : Dev nD)) v578 (.dma v575.sem)) (.dma v577.sem) harg3.wordExact (harg2.wordExact_slice rfl _ (k0_off3_wordsbf16 d0)) ⟨⟨rfl, Or.inl rfl⟩, trivial⟩)
        pure ⟨2#32, (Scalar.divsi w 2#32), (Scalar.subi (Scalar.extui (Scalar.cmpi .sgt w 0#32)) (Scalar.extui (Scalar.cmpi .slt w 0#32))), (Scalar.subi (Scalar.extui (Scalar.cmpi .sgt 2#32 0#32)) (Scalar.extui (Scalar.cmpi .slt 2#32 0#32)))⟩ : Prog (TpuEff nD τ sig (Elt F) Λ₀ .tc) (Σ' (c2_i32_266 : BitVec 32) (v579 : BitVec 32) (v584 : BitVec 32), BitVec 32)) := rfl

/-- Part 16 over the stages. -/
theorem part16_eq (d0 : Dev nD) (w : BitVec 32) :
    k0_part16 arg0 harg0 arg1 harg1 arg2 harg2 arg3 harg3 arg4 arg5 d0 w 2#32 (Scalar.divsi w 2#32) (Scalar.subi (Scalar.extui (Scalar.cmpi .sgt w 0#32)) (Scalar.extui (Scalar.cmpi .slt w 0#32))) (Scalar.subi (Scalar.extui (Scalar.cmpi .sgt 2#32 0#32)) (Scalar.extui (Scalar.cmpi .slt 2#32 0#32))) =
      (do
        let v617 : DmaSems sig S1 := arg5.slice (Rect.unit (s := S8) (k0_off4 d0 1#32) S1.size (k0_off4_inb d0 0))
        let v618 : DmaSems sig S_ := v617.squeeze S_ squeezes_S1_S_
        let v619 : Memref sig .tc .vmem S128x64 .bf16 := arg2.slice (Rect.unit (s := S1024x64) (k0_off5 d0 1#32) S128x64.size (k0_off5_inb d0 0)) (fun _ => rfl)
        Prog.lift (.waitDma2 v618.sem arg3 v619 harg3.wordExact (harg2.wordExact_slice rfl _ (k0_off5_wordsbf16 d0 0)))
        let v622 : Vec F S256x64 .bf16 ← Prog.lift (.load arg2 (Rect.unit (s := S1024x64) (k0_off6 d0) S256x64.size (k0_off6_inb d0)).toLoadRect (View.loadsAt_vmem h_S256x64))
        pure ⟨(floorDiv w 2#32), (floorDiv w 4#32), (Scalar.muli (floorDiv w 2#32) 256#32), (mg256_0 v622), (iota .tc S128x128 32 [0] iota_S128x128_d0_w32), (cmpi .sge (iota .tc S128x128 32 [1] iota_S128x128_d1_w32) (broadcast S128x128 64#32)), 128#32⟩ : Prog (TpuEff nD τ sig (Elt F) Λ₀ .tc) (Σ' (v595 : BitVec 32) (v612 : BitVec 32) (v620 : BitVec 32) (v625 : FVec F S128x128 .bf16) (v627 : IVec S128x128 32) (v629 : IVec S128x128 1), BitVec 32)) := rfl

/-- Part 17 over the stages. -/
theorem part17_eq (w : BitVec 32) (v622 : Vec F S256x64 .bf16) :
    k0_part17 arg0 harg0 arg1 harg1 arg2 harg2 arg3 harg3 arg4 arg5 (Scalar.muli (floorDiv w 2#32) 256#32) (mg256_0 v622) (iota .tc S128x128 32 [0] iota_S128x128_d0_w32) (cmpi .sge (iota .tc S128x128 32 [1] iota_S128x128_d1_w32) (broadcast S128x128 64#32)) 128#32 =
      (do
        pure ⟨(rows128 (Scalar.muli (floorDiv w 2#32) 256#32)), (clearAt (rows128 (Scalar.muli (floorDiv w 2#32) 256#32)) 256#32), (xori (xori (clearAt (rows128 (Scalar.muli (floorDiv w 2#32) 256#32)) 32#32) (clearAt (rows128 (Scalar.muli (floorDiv w 2#32) 256#32)) 256#32)) (constantI S128x128 1 1#1)), (minimumf (mg256_2 (Scalar.muli (floorDiv w 2#32) 256#32) v622) (mateRow rotates_S128x128_d0 (rows128 (Scalar.muli (floorDiv w 2#32) 256#32)) 32#32 96#32 (mg256_2 (Scalar.muli (floorDiv w 2#32) 256#32) v622))), (maximumf (mg256_2 (Scalar.muli (floorDiv w 2#32) 256#32) v622) (mateRow rotates_S128x128_d0 (rows128 (Scalar.muli (floorDiv w 2#32) 256#32)) 32#32 96#32 (mg256_2 (Scalar.muli (floorDiv w 2#32) 256#32) v622)))⟩ : Prog (TpuEff nD τ sig (Elt F) Λ₀ .tc) (Σ' (v635 : IVec S128x128 32) (v639 : IVec S128x128 1) (v670 : IVec S128x128 1) (v671 : FVec F S128x128 .bf16), FVec F S128x128 .bf16)) := rfl

/-- Part 18 over the stages. -/
theorem part18_eq (w : BitVec 32) (v622 : Vec F S256x64 .bf16) :
    k0_part18 arg0 harg0 arg1 harg1 arg2 harg2 arg3 harg3 arg4 arg5 (rows128 (Scalar.muli (floorDiv w 2#32) 256#32)) (clearAt (rows128 (Scalar.muli (floorDiv w 2#32) 256#32)) 256#32) (xori (xori (clearAt (rows128 (Scalar.muli (floorDiv w 2#32) 256#32)) 32#32) (clearAt (rows128 (Scalar.muli (floorDiv w 2#32) 256#32)) 256#32)) (constantI S128x128 1 1#1)) (minimumf (mg256_2 (Scalar.muli (floorDiv w 2#32) 256#32) v622) (mateRow rotates_S128x128_d0 (rows128 (Scalar.muli (floorDiv w 2#32) 256#32)) 32#32 96#32 (mg256_2 (Scalar.muli (floorDiv w 2#32) 256#32) v622))) (maximumf (mg256_2 (Scalar.muli (floorDiv w 2#32) 256#32) v622) (mateRow rotates_S128x128_d0 (rows128 (Scalar.muli (floorDiv w 2#32) 256#32)) 32#32 96#32 (mg256_2 (Scalar.muli (floorDiv w 2#32) 256#32) v622))) =
      (do
        pure ⟨(mg256_6 (Scalar.muli (floorDiv w 2#32) 256#32) v622), (clearAt (rows128 (Scalar.muli (floorDiv w 2#32) 256#32)) 2#32), (dynamicRotate 0 126#32 none (mg256_6 (Scalar.muli (floorDiv w 2#32) 256#32) v622) rotates_S128x128_d0)⟩ : Prog (TpuEff nD τ sig (Elt F) Λ₀ .tc) (Σ' (v709 : FVec F S128x128 .bf16) (v713 : IVec S128x128 1), FVec F S128x128 .bf16)) := rfl

/-- Part 19 over the stages. -/
theorem part19_eq (d0 : Dev nD) (w : BitVec 32) (v622 : Vec F S256x64 .bf16) :
    k0_part19 arg0 harg0 arg1 harg1 arg2 harg2 arg3 harg3 arg4 arg5 d0 w (Scalar.muli (floorDiv w 2#32) 256#32) (rows128 (Scalar.muli (floorDiv w 2#32) 256#32)) (clearAt (rows128 (Scalar.muli (floorDiv w 2#32) 256#32)) 256#32) (mg256_6 (Scalar.muli (floorDiv w 2#32) 256#32) v622) (clearAt (rows128 (Scalar.muli (floorDiv w 2#32) 256#32)) 2#32) (dynamicRotate 0 126#32 none (mg256_6 (Scalar.muli (floorDiv w 2#32) 256#32) v622) rotates_S128x128_d0) =
      (do
        let v738 : Vec F S256x64 .bf16 ← Prog.lift (.load arg2 (Rect.unit (s := S1024x64) (k0_off6 d0) S256x64.size (k0_off6_inb d0)).toLoadRect (View.loadsAt_vmem h_S256x64))
        Prog.lift (.store arg2 (Rect.unit (s := S1024x64) (k0_off6 d0) S256x64.size (k0_off6_inb d0)) (shapeCast S256x64 (mg256Out (Scalar.muli (floorDiv w 2#32) 256#32) v622) shapeCasts_S256x64_S256x64) Finset.univ (View.stores_vmem h_S256x64 (harg2.storeExact_slice rfl _ (k0_off6_packedbf16 d0)) (fun _ => rfl)) (.inl rfl))
        let v745 : DmaSems sig S1 := arg5.slice (Rect.unit (s := S8) (k0_off4 d0 2#32) S1.size (k0_off4_inb d0 1))
        let v746 : DmaSems sig S_ := v745.squeeze S_ squeezes_S1_S_
        let v747 : Memref sig .tc .vmem S128x64 .bf16 := arg2.slice (Rect.unit (s := S1024x64) (k0_off5 d0 2#32) S128x64.size (k0_off5_inb d0 1)) (fun _ => rfl)
        Prog.lift (.waitDma2 v746.sem arg3 v747 harg3.wordExact (harg2.wordExact_slice rfl _ (k0_off5_wordsbf16 d0 1)))
        pure ⟨⟩ : Prog (TpuEff nD τ sig (Elt F) Λ₀ .tc) (PUnit)) := rfl

/-- Part 20 over the stages. -/
theorem part20_eq (d0 : Dev nD) (w : BitVec 32) :
    k0_part20 arg0 harg0 arg1 harg1 arg2 harg2 arg3 harg3 arg4 arg5 d0 (floorDiv w 2#32) =
      (do
        let v754 : Memref sig .tc .vmem S128x64 .bf16 := arg2.slice (Rect.unit (s := S1024x64) (k0_off5 d0 3#32) S128x64.size (k0_off5_inb d0 2)) (fun _ => rfl)
        let v752 : DmaSems sig S1 := arg5.slice (Rect.unit (s := S8) (k0_off4 d0 3#32) S1.size (k0_off4_inb d0 2))
        let v753 : DmaSems sig S_ := v752.squeeze S_ squeezes_S1_S_
        Prog.lift (.waitDma2 v753.sem arg3 v754 harg3.wordExact (harg2.wordExact_slice rfl _ (k0_off5_wordsbf16 d0 2)))
        let v758 : Vec F S256x64 .bf16 ← Prog.lift (.load arg2 (Rect.unit (s := S1024x64) (k0_off7 d0 1#32) S256x64.size (k0_off7_inb d0 0)).toLoadRect (View.loadsAt_vmem h_S256x64))
        pure ⟨(Scalar.muli (Scalar.xori (floorDiv w 2#32) 1#32) 256#32), (rows128 (Scalar.muli (Scalar.xori (floorDiv w 2#32) 1#32) 256#32)), (clearAt (rows128 (Scalar.muli (Scalar.xori (floorDiv w 2#32) 1#32) 256#32)) 256#32), (mg256_1 (Scalar.muli (Scalar.xori (floorDiv w 2#32) 1#32) 256#32) v758), (mateRow rotates_S128x128_d0 (rows128 (Scalar.muli (Scalar.xori (floorDiv w 2#32) 1#32) 256#32)) 64#32 64#32 (mg256_1 (Scalar.muli (Scalar.xori (floorDiv w 2#32) 1#32) 256#32) v758)), (xori (xori (clearAt (rows128 (Scalar.muli (Scalar.xori (floorDiv w 2#32) 1#32) 256#32)) 64#32) (clearAt (rows128 (Scalar.muli (Scalar.xori (floorDiv w 2#32) 1#32) 256#32)) 256#32)) (constantI S128x128 1 1#1))⟩ : Prog (TpuEff nD τ sig (Elt F) Λ₀ .tc) (Σ' (v756 : BitVec 32) (v771 : IVec S128x128 32) (v775 : IVec S128x128 1) (v785 : FVec F S128x128 .bf16) (v792 : FVec F S128x128 .bf16), IVec S128x128 1)) := rfl

/-- Part 21 over the stages. -/
theorem part21_eq (w : BitVec 32) (v758 : Vec F S256x64 .bf16) :
    k0_part21 arg0 harg0 arg1 harg1 arg2 harg2 arg3 harg3 arg4 arg5 (rows128 (Scalar.muli (Scalar.xori (floorDiv w 2#32) 1#32) 256#32)) (clearAt (rows128 (Scalar.muli (Scalar.xori (floorDiv w 2#32) 1#32) 256#32)) 256#32) (mg256_1 (Scalar.muli (Scalar.xori (floorDiv w 2#32) 1#32) 256#32) v758) (mateRow rotates_S128x128_d0 (rows128 (Scalar.muli (Scalar.xori (floorDiv w 2#32) 1#32) 256#32)) 64#32 64#32 (mg256_1 (Scalar.muli (Scalar.xori (floorDiv w 2#32) 1#32) 256#32) v758)) (xori (xori (clearAt (rows128 (Scalar.muli (Scalar.xori (floorDiv w 2#32) 1#32) 256#32)) 64#32) (clearAt (rows128 (Scalar.muli (Scalar.xori (floorDiv w 2#32) 1#32) 256#32)) 256#32)) (constantI S128x128 1 1#1)) =
      (do
        pure ⟨(mg256_5 (Scalar.muli (Scalar.xori (floorDiv w 2#32) 1#32) 256#32) v758), (clearAt (rows128 (Scalar.muli (Scalar.xori (floorDiv w 2#32) 1#32) 256#32)) 4#32)⟩ : Prog (TpuEff nD τ sig (Elt F) Λ₀ .tc) (Σ' (v833 : FVec F S128x128 .bf16), IVec S128x128 1)) := rfl

/-- Part 22 over the stages. -/
theorem part22_eq (d0 : Dev nD) (w : BitVec 32) (v758 : Vec F S256x64 .bf16) :
    k0_part22 arg0 harg0 arg1 harg1 arg2 harg2 arg3 harg3 arg4 arg5 d0 (floorDiv w 4#32) (Scalar.muli (Scalar.xori (floorDiv w 2#32) 1#32) 256#32) (rows128 (Scalar.muli (Scalar.xori (floorDiv w 2#32) 1#32) 256#32)) (clearAt (rows128 (Scalar.muli (Scalar.xori (floorDiv w 2#32) 1#32) 256#32)) 256#32) (mg256_5 (Scalar.muli (Scalar.xori (floorDiv w 2#32) 1#32) 256#32) v758) (clearAt (rows128 (Scalar.muli (Scalar.xori (floorDiv w 2#32) 1#32) 256#32)) 4#32) =
      (do
        let v874 : Vec F S256x64 .bf16 ← Prog.lift (.load arg2 (Rect.unit (s := S1024x64) (k0_off7 d0 1#32) S256x64.size (k0_off7_inb d0 0)).toLoadRect (View.loadsAt_vmem h_S256x64))
        Prog.lift (.store arg2 (Rect.unit (s := S1024x64) (k0_off7 d0 1#32) S256x64.size (k0_off7_inb d0 0)) (shapeCast S256x64 (mg256Out (Scalar.muli (Scalar.xori (floorDiv w 2#32) 1#32) 256#32) v758) shapeCasts_S256x64_S256x64) Finset.univ (View.stores_vmem h_S256x64 (harg2.storeExact_slice rfl _ (k0_off7_packedbf16 d0 0)) (fun _ => rfl)) (.inl rfl))
        let v879 : Vec F S512x64 .bf16 ← Prog.lift (.load arg2 (Rect.unit (s := S1024x64) (k0_off8 d0) S512x64.size (k0_off8_inb d0)).toLoadRect (View.loadsAt_vmem h_S512x64))
        pure ⟨(Scalar.muli (floorDiv w 4#32) 512#32), v879, (extractStridedSlice S256x64 ![0, 0] v879 slices_S512x64_o0_0_S256x64)⟩ : Prog (TpuEff nD τ sig (Elt F) Λ₀ .tc) (Σ' (v877 : BitVec 32) (v879 : Vec F S512x64 .bf16), FVec F S256x64 .bf16)) := rfl

/-- Part 23 over the stages. -/
theorem part23_eq (w : BitVec 32) (v879 : Vec F S512x64 .bf16) :
    k0_part23 arg0 harg0 arg1 harg1 arg2 harg2 arg3 harg3 arg4 arg5 (Scalar.muli (floorDiv w 4#32) 512#32) v879 (extractStridedSlice S256x64 ![0, 0] v879 slices_S512x64_o0_0_S256x64) =
      (do
        pure ⟨(rows256 (Scalar.muli (floorDiv w 4#32) 512#32)), (clearAt (rows256 (Scalar.muli (floorDiv w 4#32) 512#32)) 512#32), (mg512_2 (Scalar.muli (floorDiv w 4#32) 512#32) v879), (clearAt (rows256 (Scalar.muli (floorDiv w 4#32) 512#32)) 64#32), (dynamicRotate 0 192#32 none (mg512_2 (Scalar.muli (floorDiv w 4#32) 512#32) v879) rotates_S256x128_d0)⟩ : Prog (TpuEff nD τ sig (Elt F) Λ₀ .tc) (Σ' (v892 : IVec S256x128 32) (v896 : IVec S256x128 1) (v918 : FVec F S256x128 .bf16) (v922 : IVec S256x128 1), FVec F S256x128 .bf16)) := rfl

/-- Part 24 over the stages. -/
theorem part24_eq (w : BitVec 32) (v879 : Vec F S512x64 .bf16) :
    k0_part24 arg0 harg0 arg1 harg1 arg2 harg2 arg3 harg3 arg4 arg5 (rows256 (Scalar.muli (floorDiv w 4#32) 512#32)) (clearAt (rows256 (Scalar.muli (floorDiv w 4#32) 512#32)) 512#32) (mg512_2 (Scalar.muli (floorDiv w 4#32) 512#32) v879) (clearAt (rows256 (Scalar.muli (floorDiv w 4#32) 512#32)) 64#32) (dynamicRotate 0 192#32 none (mg512_2 (Scalar.muli (floorDiv w 4#32) 512#32) v879) rotates_S256x128_d0) =
      (do
        pure (mg512_6 (Scalar.muli (floorDiv w 4#32) 512#32) v879) : Prog (TpuEff nD τ sig (Elt F) Λ₀ .tc) (FVec F S256x128 .bf16)) := rfl

/-- Part 25 over the stages. -/
theorem part25_eq (d0 : Dev nD) (w : BitVec 32) (v879 : Vec F S512x64 .bf16) :
    k0_part25 arg0 harg0 arg1 harg1 arg2 harg2 arg3 harg3 arg4 arg5 d0 (Scalar.muli (floorDiv w 4#32) 512#32) (rows256 (Scalar.muli (floorDiv w 4#32) 512#32)) (clearAt (rows256 (Scalar.muli (floorDiv w 4#32) 512#32)) 512#32) (mg512_6 (Scalar.muli (floorDiv w 4#32) 512#32) v879) =
      (do
        let v1007 : Vec F S512x64 .bf16 ← Prog.lift (.load arg2 (Rect.unit (s := S1024x64) (k0_off8 d0) S512x64.size (k0_off8_inb d0)).toLoadRect (View.loadsAt_vmem h_S512x64))
        Prog.lift (.store arg2 (Rect.unit (s := S1024x64) (k0_off8 d0) S512x64.size (k0_off8_inb d0)) (shapeCast S512x64 (mg512Out (Scalar.muli (floorDiv w 4#32) 512#32) v879) shapeCasts_S512x64_S512x64) Finset.univ (View.stores_vmem h_S512x64 (harg2.storeExact_slice rfl _ (k0_off8_packedbf16 d0)) (fun _ => rfl)) (.inl rfl))
        pure ⟨⟩ : Prog (TpuEff nD τ sig (Elt F) Λ₀ .tc) (PUnit)) := rfl

/-- Part 26 over the stages. -/
theorem part26_eq (d0 : Dev nD) (w : BitVec 32) :
    k0_part26 arg0 harg0 arg1 harg1 arg2 harg2 arg3 harg3 arg4 arg5 d0 w (floorDiv w 2#32) =
      (do
        let v1014 : DmaSems sig S1 := arg5.slice (Rect.unit (s := S8) (k0_off4 d0 4#32) S1.size (k0_off4_inb d0 3))
        let v1015 : DmaSems sig S_ := v1014.squeeze S_ squeezes_S1_S_
        let v1016 : Memref sig .tc .vmem S128x64 .bf16 := arg2.slice (Rect.unit (s := S1024x64) (k0_off5 d0 4#32) S128x64.size (k0_off5_inb d0 3)) (fun _ => rfl)
        Prog.lift (.waitDma2 v1015.sem arg3 v1016 harg3.wordExact (harg2.wordExact_slice rfl _ (k0_off5_wordsbf16 d0 3)))
        let v1021 : DmaSems sig S1 := arg5.slice (Rect.unit (s := S8) (k0_off4 d0 5#32) S1.size (k0_off4_inb d0 4))
        let v1022 : DmaSems sig S_ := v1021.squeeze S_ squeezes_S1_S_
        let v1023 : Memref sig .tc .vmem S128x64 .bf16 := arg2.slice (Rect.unit (s := S1024x64) (k0_off5 d0 5#32) S128x64.size (k0_off5_inb d0 4)) (fun _ => rfl)
        Prog.lift (.waitDma2 v1022.sem arg3 v1023 harg3.wordExact (harg2.wordExact_slice rfl _ (k0_off5_wordsbf16 d0 4)))
        let v1027 : Vec F S256x64 .bf16 ← Prog.lift (.load arg2 (Rect.unit (s := S1024x64) (k0_off7 d0 2#32) S256x64.size (k0_off7_inb d0 1)).toLoadRect (View.loadsAt_vmem h_S256x64))
        pure ⟨(Scalar.muli (Scalar.xori (floorDiv w 2#32) 2#32) 256#32), (mg256_0 v1027), (rows128 (Scalar.muli (Scalar.xori (floorDiv w 2#32) 2#32) 256#32)), (clearAt (rows128 (Scalar.muli (Scalar.xori (floorDiv w 2#32) 2#32) 256#32)) 256#32), (andi (rows128 (Scalar.muli (Scalar.xori (floorDiv w 2#32) 2#32) 256#32)) (broadcast S128x128 128#32))⟩ : Prog (TpuEff nD τ sig (Elt F) Λ₀ .tc) (Σ' (v1025 : BitVec 32) (v1030 : FVec F S128x128 .bf16) (v1040 : IVec S128x128 32) (v1044 : IVec S128x128 1), IVec S128x128 32)) := rfl

/-- Part 27 over the stages. -/
theorem part27_eq (w : BitVec 32) (v1027 : Vec F S256x64 .bf16) :
    k0_part27 arg0 harg0 arg1 harg1 arg2 harg2 arg3 harg3 arg4 arg5 (mg256_0 v1027) (rows128 (Scalar.muli (Scalar.xori (floorDiv w 2#32) 2#32) 256#32)) (clearAt (rows128 (Scalar.muli (Scalar.xori (floorDiv w 2#32) 2#32) 256#32)) 256#32) (andi (rows128 (Scalar.muli (Scalar.xori (floorDiv w 2#32) 2#32) 256#32)) (broadcast S128x128 128#32)) =
      (do
        pure ⟨(mg256_3 (Scalar.muli (Scalar.xori (floorDiv w 2#32) 2#32) 256#32) v1027), (mateRow rotates_S128x128_d0 (rows128 (Scalar.muli (Scalar.xori (floorDiv w 2#32) 2#32) 256#32)) 16#32 112#32 (mg256_3 (Scalar.muli (Scalar.xori (floorDiv w 2#32) 2#32) 256#32) v1027)), (xori (xori (clearAt (rows128 (Scalar.muli (Scalar.xori (floorDiv w 2#32) 2#32) 256#32)) 16#32) (clearAt (rows128 (Scalar.muli (Scalar.xori (floorDiv w 2#32) 2#32) 256#32)) 256#32)) (constantI S128x128 1 1#1)), (minimumf (mg256_3 (Scalar.muli (Scalar.xori (floorDiv w 2#32) 2#32) 256#32) v1027) (mateRow rotates_S128x128_d0 (rows128 (Scalar.muli (Scalar.xori (floorDiv w 2#32) 2#32) 256#32)) 16#32 112#32 (mg256_3 (Scalar.muli (Scalar.xori (floorDiv w 2#32) 2#32) 256#32) v1027)))⟩ : Prog (TpuEff nD τ sig (Elt F) Λ₀ .tc) (Σ' (v1078 : FVec F S128x128 .bf16) (v1085 : FVec F S128x128 .bf16) (v1087 : IVec S128x128 1), FVec F S128x128 .bf16)) := rfl

/-- Part 28 over the stages. -/
theorem part28_eq (w : BitVec 32) (v1027 : Vec F S256x64 .bf16) :
    k0_part28 arg0 harg0 arg1 harg1 arg2 harg2 arg3 harg3 arg4 arg5 (rows128 (Scalar.muli (Scalar.xori (floorDiv w 2#32) 2#32) 256#32)) (clearAt (rows128 (Scalar.muli (Scalar.xori (floorDiv w 2#32) 2#32) 256#32)) 256#32) (mg256_3 (Scalar.muli (Scalar.xori (floorDiv w 2#32) 2#32) 256#32) v1027) (mateRow rotates_S128x128_d0 (rows128 (Scalar.muli (Scalar.xori (floorDiv w 2#32) 2#32) 256#32)) 16#32 112#32 (mg256_3 (Scalar.muli (Scalar.xori (floorDiv w 2#32) 2#32) 256#32) v1027)) (xori (xori (clearAt (rows128 (Scalar.muli (Scalar.xori (floorDiv w 2#32) 2#32) 256#32)) 16#32) (clearAt (rows128 (Scalar.muli (Scalar.xori (floorDiv w 2#32) 2#32) 256#32)) 256#32)) (constantI S128x128 1 1#1)) (minimumf (mg256_3 (Scalar.muli (Scalar.xori (floorDiv w 2#32) 2#32) 256#32) v1027) (mateRow rotates_S128x128_d0 (rows128 (Scalar.muli (Scalar.xori (floorDiv w 2#32) 2#32) 256#32)) 16#32 112#32 (mg256_3 (Scalar.muli (Scalar.xori (floorDiv w 2#32) 2#32) 256#32) v1027))) =
      (do
        pure ⟨(mg256_7 (Scalar.muli (Scalar.xori (floorDiv w 2#32) 2#32) 256#32) v1027), (clearAt (rows128 (Scalar.muli (Scalar.xori (floorDiv w 2#32) 2#32) 256#32)) 1#32), 127#32⟩ : Prog (TpuEff nD τ sig (Elt F) Λ₀ .tc) (Σ' (v1126 : FVec F S128x128 .bf16) (v1130 : IVec S128x128 1), BitVec 32)) := rfl

/-- Part 29 over the stages. -/
theorem part29_eq (d0 : Dev nD) (w : BitVec 32) (v1027 : Vec F S256x64 .bf16) :
    k0_part29 arg0 harg0 arg1 harg1 arg2 harg2 arg3 harg3 arg4 arg5 d0 w (floorDiv w 2#32) (Scalar.muli (Scalar.xori (floorDiv w 2#32) 2#32) 256#32) (clearAt (rows128 (Scalar.muli (Scalar.xori (floorDiv w 2#32) 2#32) 256#32)) 256#32) (mg256_7 (Scalar.muli (Scalar.xori (floorDiv w 2#32) 2#32) 256#32) v1027) (clearAt (rows128 (Scalar.muli (Scalar.xori (floorDiv w 2#32) 2#32) 256#32)) 1#32) 127#32 =
      (do
        let v1143 : Vec F S256x64 .bf16 ← Prog.lift (.load arg2 (Rect.unit (s := S1024x64) (k0_off7 d0 2#32) S256x64.size (k0_off7_inb d0 1)).toLoadRect (View.loadsAt_vmem h_S256x64))
        Prog.lift (.store arg2 (Rect.unit (s := S1024x64) (k0_off7 d0 2#32) S256x64.size (k0_off7_inb d0 1)) (shapeCast S256x64 (mg256Out (Scalar.muli (Scalar.xori (floorDiv w 2#32) 2#32) 256#32) v1027) shapeCasts_S256x64_S256x64) Finset.univ (View.stores_vmem h_S256x64 (harg2.storeExact_slice rfl _ (k0_off7_packedbf16 d0 1)) (fun _ => rfl)) (.inl rfl))
        let v1150 : DmaSems sig S1 := arg5.slice (Rect.unit (s := S8) (k0_off4 d0 6#32) S1.size (k0_off4_inb d0 5))
        let v1151 : DmaSems sig S_ := v1150.squeeze S_ squeezes_S1_S_
        let v1152 : Memref sig .tc .vmem S128x64 .bf16 := arg2.slice (Rect.unit (s := S1024x64) (k0_off5 d0 6#32) S128x64.size (k0_off5_inb d0 5)) (fun _ => rfl)
        Prog.lift (.waitDma2 v1151.sem arg3 v1152 harg3.wordExact (harg2.wordExact_slice rfl _ (k0_off5_wordsbf16 d0 5)))
        let v1157 : DmaSems sig S1 := arg5.slice (Rect.unit (s := S8) (k0_off4 d0 7#32) S1.size (k0_off4_inb d0 6))
        let v1158 : DmaSems sig S_ := v1157.squeeze S_ squeezes_S1_S_
        let v1159 : Memref sig .tc .vmem S128x64 .bf16 := arg2.slice (Rect.unit (s := S1024x64) (k0_off5 d0 7#32) S128x64.size (k0_off5_inb d0 6)) (fun _ => rfl)
        Prog.lift (.waitDma2 v1158.sem arg3 v1159 harg3.wordExact (harg2.wordExact_slice rfl _ (k0_off5_wordsbf16 d0 6)))
        let v1163 : Vec F S256x64 .bf16 ← Prog.lift (.load arg2 (Rect.unit (s := S1024x64) (k0_off7 d0 3#32) S256x64.size (k0_off7_inb d0 2)).toLoadRect (View.loadsAt_vmem h_S256x64))
        pure ⟨(Scalar.muli (Scalar.xori (floorDiv w 2#32) 3#32) 256#32), (mg256_0 v1163), (iota .tc S128x128 32 [1] iota_S128x128_d1_w32), (iota .tc S128x128 32 [0] iota_S128x128_d0_w32), 64#32⟩ : Prog (TpuEff nD τ sig (Elt F) Λ₀ .tc) (Σ' (v1161 : BitVec 32) (v1166 : FVec F S128x128 .bf16) (v1167 : IVec S128x128 32) (v1168 : IVec S128x128 32), BitVec 32)) := rfl

/-- Part 30 over the stages. -/
theorem part30_eq (w : BitVec 32) (v1163 : Vec F S256x64 .bf16) :
    k0_part30 arg0 harg0 arg1 harg1 arg2 harg2 arg3 harg3 arg4 arg5 (Scalar.muli (Scalar.xori (floorDiv w 2#32) 3#32) 256#32) (mg256_0 v1163) (iota .tc S128x128 32 [1] iota_S128x128_d1_w32) (iota .tc S128x128 32 [0] iota_S128x128_d0_w32) 64#32 =
      (do
        pure ⟨(rows128 (Scalar.muli (Scalar.xori (floorDiv w 2#32) 3#32) 256#32)), (clearAt (rows128 (Scalar.muli (Scalar.xori (floorDiv w 2#32) 3#32) 256#32)) 256#32), (mg256_2 (Scalar.muli (Scalar.xori (floorDiv w 2#32) 3#32) 256#32) v1163), (mateRow rotates_S128x128_d0 (rows128 (Scalar.muli (Scalar.xori (floorDiv w 2#32) 3#32) 256#32)) 32#32 96#32 (mg256_2 (Scalar.muli (Scalar.xori (floorDiv w 2#32) 3#32) 256#32) v1163)), (xori (clearAt (rows128 (Scalar.muli (Scalar.xori (floorDiv w 2#32) 3#32) 256#32)) 32#32) (clearAt (rows128 (Scalar.muli (Scalar.xori (floorDiv w 2#32) 3#32) 256#32)) 256#32)), (constantI S128x128 1 1#1)⟩ : Prog (TpuEff nD τ sig (Elt F) Λ₀ .tc) (Σ' (v1176 : IVec S128x128 32) (v1180 : IVec S128x128 1) (v1202 : FVec F S128x128 .bf16) (v1209 : FVec F S128x128 .bf16) (v1210 : IVec S128x128 1), IVec S128x128 1)) := rfl

/-- Part 31 over the stages. -/
theorem part31_eq (w : BitVec 32) (v1163 : Vec F S256x64 .bf16) :
    k0_part31 arg0 harg0 arg1 harg1 arg2 harg2 arg3 harg3 arg4 arg5 (rows128 (Scalar.muli (Scalar.xori (floorDiv w 2#32) 3#32) 256#32)) (clearAt (rows128 (Scalar.muli (Scalar.xori (floorDiv w 2#32) 3#32) 256#32)) 256#32) (mg256_2 (Scalar.muli (Scalar.xori (floorDiv w 2#32) 3#32) 256#32) v1163) (mateRow rotates_S128x128_d0 (rows128 (Scalar.muli (Scalar.xori (floorDiv w 2#32) 3#32) 256#32)) 32#32 96#32 (mg256_2 (Scalar.muli (Scalar.xori (floorDiv w 2#32) 3#32) 256#32) v1163)) (xori (clearAt (rows128 (Scalar.muli (Scalar.xori (floorDiv w 2#32) 3#32) 256#32)) 32#32) (clearAt (rows128 (Scalar.muli (Scalar.xori (floorDiv w 2#32) 3#32) 256#32)) 256#32)) (constantI S128x128 1 1#1) =
      (do
        pure ⟨(mg256_6 (Scalar.muli (Scalar.xori (floorDiv w 2#32) 3#32) 256#32) v1163), (andi (rows128 (Scalar.muli (Scalar.xori (floorDiv w 2#32) 3#32) 256#32)) (broadcast S128x128 2#32)), (broadcast S128x128 0#32)⟩ : Prog (TpuEff nD τ sig (Elt F) Λ₀ .tc) (Σ' (v1250 : FVec F S128x128 .bf16) (v1252 : IVec S128x128 32), IVec S128x128 32)) := rfl

/-- Part 32 over the stages. -/
theorem part32_eq (d0 : Dev nD) (w : BitVec 32) (v1163 : Vec F S256x64 .bf16) :
    k0_part32 arg0 harg0 arg1 harg1 arg2 harg2 arg3 harg3 arg4 arg5 d0 (floorDiv w 4#32) (Scalar.muli (Scalar.xori (floorDiv w 2#32) 3#32) 256#32) (rows128 (Scalar.muli (Scalar.xori (floorDiv w 2#32) 3#32) 256#32)) (clearAt (rows128 (Scalar.muli (Scalar.xori (floorDiv w 2#32) 3#32) 256#32)) 256#32) (mg256_6 (Scalar.muli (Scalar.xori (floorDiv w 2#32) 3#32) 256#32) v1163) (andi (rows128 (Scalar.muli (Scalar.xori (floorDiv w 2#32) 3#32) 256#32)) (broadcast S128x128 2#32)) (broadcast S128x128 0#32) =
      (do
        let v1279 : Vec F S256x64 .bf16 ← Prog.lift (.load arg2 (Rect.unit (s := S1024x64) (k0_off7 d0 3#32) S256x64.size (k0_off7_inb d0 2)).toLoadRect (View.loadsAt_vmem h_S256x64))
        Prog.lift (.store arg2 (Rect.unit (s := S1024x64) (k0_off7 d0 3#32) S256x64.size (k0_off7_inb d0 2)) (shapeCast S256x64 (mg256Out (Scalar.muli (Scalar.xori (floorDiv w 2#32) 3#32) 256#32) v1163) shapeCasts_S256x64_S256x64) Finset.univ (View.stores_vmem h_S256x64 (harg2.storeExact_slice rfl _ (k0_off7_packedbf16 d0 2)) (fun _ => rfl)) (.inl rfl))
        let v1285 : Vec F S512x64 .bf16 ← Prog.lift (.load arg2 (Rect.unit (s := S1024x64) (k0_off9 d0) S512x64.size (k0_off9_inb d0)).toLoadRect (View.loadsAt_vmem h_S512x64))
        pure ⟨(Scalar.muli (Scalar.xori (floorDiv w 4#32) 1#32) 512#32), (mg512_0 v1285), (addi (iota .tc S256x128 32 [0] iota_S256x128_d0_w32) (select (cmpi .sge (iota .tc S256x128 32 [1] iota_S256x128_d1_w32) (broadcast S256x128 64#32)) (broadcast S256x128 256#32) (broadcast S256x128 0#32))), (broadcast S256x128 (Scalar.muli (Scalar.xori (floorDiv w 4#32) 1#32) 512#32))⟩ : Prog (TpuEff nD τ sig (Elt F) Λ₀ .tc) (Σ' (v1283 : BitVec 32) (v1288 : FVec F S256x128 .bf16) (v1296 : IVec S256x128 32), IVec S256x128 32)) := rfl

/-- Part 33 over the stages. -/
theorem part33_eq (w : BitVec 32) (v1285 : Vec F S512x64 .bf16) :
    k0_part33 arg0 harg0 arg1 harg1 arg2 harg2 arg3 harg3 arg4 arg5 (mg512_0 v1285) (addi (iota .tc S256x128 32 [0] iota_S256x128_d0_w32) (select (cmpi .sge (iota .tc S256x128 32 [1] iota_S256x128_d1_w32) (broadcast S256x128 64#32)) (broadcast S256x128 256#32) (broadcast S256x128 0#32))) (broadcast S256x128 (Scalar.muli (Scalar.xori (floorDiv w 4#32) 1#32) 512#32)) =
      (do
        pure ⟨(rows256 (Scalar.muli (Scalar.xori (floorDiv w 4#32) 1#32) 512#32)), (clearAt (rows256 (Scalar.muli (Scalar.xori (floorDiv w 4#32) 1#32) 512#32)) 512#32), (mg512_3 (Scalar.muli (Scalar.xori (floorDiv w 4#32) 1#32) 512#32) v1285), (andi (rows256 (Scalar.muli (Scalar.xori (floorDiv w 4#32) 1#32) 512#32)) (broadcast S256x128 32#32)), (broadcast S256x128 0#32)⟩ : Prog (TpuEff nD τ sig (Elt F) Λ₀ .tc) (Σ' (v1298 : IVec S256x128 32) (v1302 : IVec S256x128 1) (v1336 : FVec F S256x128 .bf16) (v1338 : IVec S256x128 32), IVec S256x128 32)) := rfl

/-- Part 34 over the stages. -/
theorem part34_eq (w : BitVec 32) (v1285 : Vec F S512x64 .bf16) :
    k0_part34 arg0 harg0 arg1 harg1 arg2 harg2 arg3 harg3 arg4 arg5 (rows256 (Scalar.muli (Scalar.xori (floorDiv w 4#32) 1#32) 512#32)) (clearAt (rows256 (Scalar.muli (Scalar.xori (floorDiv w 4#32) 1#32) 512#32)) 512#32) (mg512_3 (Scalar.muli (Scalar.xori (floorDiv w 4#32) 1#32) 512#32) v1285) (andi (rows256 (Scalar.muli (Scalar.xori (floorDiv w 4#32) 1#32) 512#32)) (broadcast S256x128 32#32)) (broadcast S256x128 0#32) =
      (do
        pure ⟨(mg512_6 (Scalar.muli (Scalar.xori (floorDiv w 4#32) 1#32) 512#32) v1285), (mateRow rotates_S256x128_d0 (rows256 (Scalar.muli (Scalar.xori (floorDiv w 4#32) 1#32) 512#32)) 4#32 252#32 (mg512_6 (Scalar.muli (Scalar.xori (floorDiv w 4#32) 1#32) 512#32) v1285)), (xori (xori (clearAt (rows256 (Scalar.muli (Scalar.xori (floorDiv w 4#32) 1#32) 512#32)) 4#32) (clearAt (rows256 (Scalar.muli (Scalar.xori (floorDiv w 4#32) 1#32) 512#32)) 512#32)) (constantI S256x128 1 1#1))⟩ : Prog (TpuEff nD τ sig (Elt F) Λ₀ .tc) (Σ' (v1372 : FVec F S256x128 .bf16) (v1379 : FVec F S256x128 .bf16), IVec S256x128 1)) := rfl

/-- Part 35 over the stages. -/
theorem part35_eq (d0 : Dev nD) (w : BitVec 32) (v1285 : Vec F S512x64 .bf16) :
    k0_part35 arg0 harg0 arg1 harg1 arg2 harg2 arg3 harg3 arg4 arg5 d0 (Scalar.muli (Scalar.xori (floorDiv w 4#32) 1#32) 512#32) (rows256 (Scalar.muli (Scalar.xori (floorDiv w 4#32) 1#32) 512#32)) (clearAt (rows256 (Scalar.muli (Scalar.xori (floorDiv w 4#32) 1#32) 512#32)) 512#32) (mg512_6 (Scalar.muli (Scalar.xori (floorDiv w 4#32) 1#32) 512#32) v1285) (mateRow rotates_S256x128_d0 (rows256 (Scalar.muli (Scalar.xori (floorDiv w 4#32) 1#32) 512#32)) 4#32 252#32 (mg512_6 (Scalar.muli (Scalar.xori (floorDiv w 4#32) 1#32) 512#32) v1285)) (xori (xori (clearAt (rows256 (Scalar.muli (Scalar.xori (floorDiv w 4#32) 1#32) 512#32)) 4#32) (clearAt (rows256 (Scalar.muli (Scalar.xori (floorDiv w 4#32) 1#32) 512#32)) 512#32)) (constantI S256x128 1 1#1)) =
      (do
        let v1413 : Vec F S512x64 .bf16 ← Prog.lift (.load arg2 (Rect.unit (s := S1024x64) (k0_off9 d0) S512x64.size (k0_off9_inb d0)).toLoadRect (View.loadsAt_vmem h_S512x64))
        Prog.lift (.store arg2 (Rect.unit (s := S1024x64) (k0_off9 d0) S512x64.size (k0_off9_inb d0)) (shapeCast S512x64 (mg512Out (Scalar.muli (Scalar.xori (floorDiv w 4#32) 1#32) 512#32) v1285) shapeCasts_S512x64_S512x64) Finset.univ (View.stores_vmem h_S512x64 (harg2.storeExact_slice rfl _ (k0_off9_packedbf16 d0)) (fun _ => rfl)) (.inl rfl))
        let v1416 : Vec F S1024x64 .bf16 ← Prog.lift (.load arg2 (Rect.unit (s := S1024x64) ![0, 0] S1024x64.size inb_S1024x64_S1024x64_0_0).toLoadRect (View.loadsAt_vmem h_S1024x64))
        pure ⟨(mg1024_0 v1416), (iota .tc S512x128 32 [0] iota_S512x128_d0_w32), (cmpi .sge (iota .tc S512x128 32 [1] iota_S512x128_d1_w32) (broadcast S512x128 64#32)), 0#32, (broadcast S512x128 512#32)⟩ : Prog (TpuEff nD τ sig (Elt F) Λ₀ .tc) (Σ' (v1419 : FVec F S512x128 .bf16) (v1421 : IVec S512x128 32) (v1423 : IVec S512x128 1) (c0_i32_607 : BitVec 32), IVec S512x128 32)) := rfl

/-- Part 36 over the stages. -/
theorem part36_eq (v1416 : Vec F S1024x64 .bf16) :
    k0_part36 arg0 harg0 arg1 harg1 arg2 harg2 arg3 harg3 arg4 arg5 (mg1024_0 v1416) (iota .tc S512x128 32 [0] iota_S512x128_d0_w32) (cmpi .sge (iota .tc S512x128 32 [1] iota_S512x128_d1_w32) (broadcast S512x128 64#32)) 0#32 (broadcast S512x128 512#32) =
      (do
        pure ⟨rows512, (clearAt rows512 1024#32), (mg1024_3 v1416)⟩ : Prog (TpuEff nD τ sig (Elt F) Λ₀ .tc) (Σ' (v1429 : IVec S512x128 32) (v1433 : IVec S512x128 1), FVec F S512x128 .bf16)) := rfl

/-- Part 37 over the stages. -/
theorem part37_eq (v1416 : Vec F S1024x64 .bf16) :
    k0_part37 arg0 harg0 arg1 harg1 arg2 harg2 arg3 harg3 arg4 arg5 rows512 (clearAt rows512 1024#32) (mg1024_3 v1416) =
      (do
        pure ⟨(mg1024_6 v1416), (clearAt rows512 8#32), (dynamicRotate 0 504#32 none (mg1024_6 v1416) rotates_S512x128_d0), 8#32⟩ : Prog (TpuEff nD τ sig (Elt F) Λ₀ .tc) (Σ' (v1503 : FVec F S512x128 .bf16) (v1507 : IVec S512x128 1) (v1508 : FVec F S512x128 .bf16), BitVec 32)) := rfl

/-- Part 38 over the stages. -/
theorem part38_eq (v1416 : Vec F S1024x64 .bf16) :
    k0_part38 arg0 harg0 arg1 harg1 arg2 harg2 arg3 harg3 arg4 arg5 rows512 (clearAt rows512 1024#32) (mg1024_6 v1416) (clearAt rows512 8#32) (dynamicRotate 0 504#32 none (mg1024_6 v1416) rotates_S512x128_d0) 8#32 =
      (do
        pure ⟨(mg1024_10 v1416), (extractStridedSlice S512x64 ![0, 0] (mg1024_10 v1416) slices_S512x128_o0_0_S512x64)⟩ : Prog (TpuEff nD τ sig (Elt F) Λ₀ .tc) (Σ' (v1551 : FVec F S512x128 .bf16), FVec F S512x64 .bf16)) := rfl

/-- Part 39 over the stages. -/
theorem part39_eq (d0 : Dev nD) (w : BitVec 32) (v1416 : Vec F S1024x64 .bf16) :
    k0_part39 arg0 harg0 arg1 harg1 arg2 harg2 arg3 harg3 arg4 arg5 d0 w (mg1024_10 v1416) (extractStridedSlice S512x64 ![0, 0] (mg1024_10 v1416) slices_S512x128_o0_0_S512x64) =
      (do
        let v1555 : Vec F S1024x64 .bf16 ← Prog.lift (.load arg2 (Rect.unit (s := S1024x64) ![0, 0] S1024x64.size inb_S1024x64_S1024x64_0_0).toLoadRect (View.loadsAt_vmem h_S1024x64))
        Prog.lift (.store arg2 (Rect.unit (s := S1024x64) ![0, 0] S1024x64.size inb_S1024x64_S1024x64_0_0) (shapeCast S1024x64 (mg1024Out v1416) shapeCasts_S1024x64_S1024x64) Finset.univ (View.stores_vmem h_S1024x64 (harg2.storeExact_slice rfl _ packedbf16_S1024x64_S1024x64_0_0) (fun _ => rfl)) (.inl rfl))
        let v1560 : Vec F S128x64 .bf16 ← Prog.lift (.load arg2 (Rect.unit (s := S1024x64) (k0_off1 d0) S128x64.size (k0_off1_inb d0)).toLoadRect (View.loadsAt_vmem h_S128x64))
        let v1562 : Vec F S128x64 .f32 ← Prog.lift (.load arg1 (Rect.unit (s := S128x64) ![0, 0] S128x64.size inb_S128x64_S128x64_0_0).toLoadRect (View.loadsAt_vmem h_S128x64))
        Prog.lift (.store arg1 (Rect.unit (s := S128x64) ![0, 0] S128x64.size inb_S128x64_S128x64_0_0) (extf .f32 v1560 bitsLt_bf16_f32) Finset.univ (View.stores_vmem_bits_univ h_S128x64 rfl) (.inl rfl))
        let v1563 : DmaSems sig S1 := arg4.slice (Rect.unit (s := S7) ![0] S1.size inb_S7_S1_0)
        let v1564 : DmaSems sig S_ := v1563.squeeze S_ squeezes_S1_S_
        let v1565 : Memref sig .tc .vmem S128x64 .bf16 := arg2.slice (Rect.unit (s := S1024x64) (k0_off3 d0) S128x64.size (k0_off3_inb d0)) (fun _ => rfl)
        Prog.lift (.waitDma2 v1564.sem v1565 arg3 (harg2.wordExact_slice rfl _ (k0_off3_wordsbf16 d0)) harg3.wordExact)
        let v1566 : DmaSems sig S1 := arg4.slice (Rect.unit (s := S7) ![1] S1.size inb_S7_S1_1)
        let v1567 : DmaSems sig S_ := v1566.squeeze S_ squeezes_S1_S_
        let v1568 : Memref sig .tc .vmem S128x64 .bf16 := arg2.slice (Rect.unit (s := S1024x64) (k0_off3 d0) S128x64.size (k0_off3_inb d0)) (fun _ => rfl)
        Prog.lift (.waitDma2 v1567.sem v1568 arg3 (harg2.wordExact_slice rfl _ (k0_off3_wordsbf16 d0)) harg3.wordExact)
        let v1569 : DmaSems sig S1 := arg4.slice (Rect.unit (s := S7) ![2] S1.size inb_S7_S1_2)
        let v1570 : DmaSems sig S_ := v1569.squeeze S_ squeezes_S1_S_
        let v1571 : Memref sig .tc .vmem S128x64 .bf16 := arg2.slice (Rect.unit (s := S1024x64) (k0_off3 d0) S128x64.size (k0_off3_inb d0)) (fun _ => rfl)
        Prog.lift (.waitDma2 v1570.sem v1571 arg3 (harg2.wordExact_slice rfl _ (k0_off3_wordsbf16 d0)) harg3.wordExact)
        let v1572 : DmaSems sig S1 := arg4.slice (Rect.unit (s := S7) ![3] S1.size inb_S7_S1_3)
        let v1573 : DmaSems sig S_ := v1572.squeeze S_ squeezes_S1_S_
        let v1574 : Memref sig .tc .vmem S128x64 .bf16 := arg2.slice (Rect.unit (s := S1024x64) (k0_off3 d0) S128x64.size (k0_off3_inb d0)) (fun _ => rfl)
        Prog.lift (.waitDma2 v1573.sem v1574 arg3 (harg2.wordExact_slice rfl _ (k0_off3_wordsbf16 d0)) harg3.wordExact)
        let v1575 : DmaSems sig S1 := arg4.slice (Rect.unit (s := S7) ![4] S1.size inb_S7_S1_4)
        let v1576 : DmaSems sig S_ := v1575.squeeze S_ squeezes_S1_S_
        let v1577 : Memref sig .tc .vmem S128x64 .bf16 := arg2.slice (Rect.unit (s := S1024x64) (k0_off3 d0) S128x64.size (k0_off3_inb d0)) (fun _ => rfl)
        Prog.lift (.waitDma2 v1576.sem v1577 arg3 (harg2.wordExact_slice rfl _ (k0_off3_wordsbf16 d0)) harg3.wordExact)
        let v1578 : DmaSems sig S1 := arg4.slice (Rect.unit (s := S7) ![5] S1.size inb_S7_S1_5)
        let v1579 : DmaSems sig S_ := v1578.squeeze S_ squeezes_S1_S_
        let v1580 : Memref sig .tc .vmem S128x64 .bf16 := arg2.slice (Rect.unit (s := S1024x64) (k0_off3 d0) S128x64.size (k0_off3_inb d0)) (fun _ => rfl)
        Prog.lift (.waitDma2 v1579.sem v1580 arg3 (harg2.wordExact_slice rfl _ (k0_off3_wordsbf16 d0)) harg3.wordExact)
        pure ⟨⟩ : Prog (TpuEff nD τ sig (Elt F) Λ₀ .tc) (PUnit)) := rfl

end Cert.KernelIdeal.Parts
-- ==== Proof.KernelIdealBody.lean ====
/- A device's run, one step after the other, at a symbolic device: what it starts from, what it leaves. -/
module

public import proofs.«01_k».proof.Proof.KernelIdealPlaces
public import proofs.«01_k».proof.Proof.KernelIdealParts
public import Idealize.ShloMosaic.Lib.Pipeline.Value

@[expose] public section

set_option maxRecDepth 65536

noncomputable section

namespace Cert.KernelIdeal.Run

open Cert.KernelIdeal Cert.KernelIdeal.Gen Cert.Bitonic Cert.KernelIdeal.Parts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-! ## The whole-buffer accesses -/

abbrev rx : Rect S128x64 := Rect.unit (s := S128x64) ![0, 0] S128x64.size inb_S128x64_S128x64_0_0

theorem zeros : (![0, 0] : Fin 2 → Nat) = fun _ => 0 := funext fun a => by fin_cases a <;> rfl
theorem read_x (f : (cc0_stg0_0 : Ref sig .tc).ty.Contents (Elt F)) : (xM : Memref sig .tc .vmem S128x64 .bf16).view.readAt (Elt F) rx.toLoadRect f = f :=
  Memref.readAt_unit_zero (Elt F) cc0_stg0_0 zeros _ f
theorem write_out (f w : (cc0_stg1_0 : Ref sig .tc).ty.Contents (Elt F)) :
    ((oM : Memref sig .tc .vmem S128x64 .f32).access rx : View sig .tc _ _ _).write (Elt F) f w Finset.univ = w :=
  Memref.write_access_unit_zero_univ (Elt F) cc0_stg1_0 zeros _ f w
theorem write_buf (f w : (cc0_scratch1 : Ref sig .tc).ty.Contents (Elt F)) :
    ((bM : Memref sig .tc .vmem S128x64 .bf16).access rx : View sig .tc _ _ _).write (Elt F) f w Finset.univ = w :=
  Memref.write_access_unit_zero_univ (Elt F) cc0_scratch1 zeros _ f w

/-! ## What a device starts from -/

/-- The two payments a device's copy `i` makes. -/
def tokBit (c : Dev nD) (i : Fin 7) : sProp 𝕄 := iprop(dutyTok ER (sendCell c i) 0 c ∗ dutyTok ER (recvCell (xord c i) c) 0 c)
/-- The share copy `i` reads, and where it lands. -/
def bufBit (c : Dev nD) (i : Fin 7) : sProp 𝕄 := bufPts c (shr i) (vloc m ρ c)
def dstBit (c : Dev nD) (i : Fin 7) : sProp 𝕄 := iprop(∃ f, regPts (xord c i) {c} f)
def posBit (c : Dev nD) (i : Fin 7) : sProp 𝕄 := atPos ER (sendCell c i) 0 ∅ 0

theorem copyBits (c : Dev nD) : iprop(allOf (tokBit c) all7 ∗ allOf (bufBit m ρ c) all7 ∗ allOf (dstBit c) all7) ⊢ allOf (copyBit m ρ c) all7 := by
  unfold tokBit bufBit dstBit copyBit
  simp only [all7, allOf_cons]
  iintro ⟨⟨⟨A0, B0⟩, ⟨A1, B1⟩, ⟨A2, B2⟩, ⟨A3, B3⟩, ⟨A4, B4⟩, ⟨A5, B5⟩, ⟨A6, B6⟩, E⟩,
    ⟨C0, C1, C2, C3, C4, C5, C6, -⟩, ⟨D0, D1, D2, D3, D4, D5, D6, -⟩⟩
  isplitl [A0 B0 C0 D0]
  · isplitl [A0]; · iexact A0
    isplitl [B0]; · iexact B0
    isplitl [C0] <;> iassumption
  isplitl [A1 B1 C1 D1]
  · isplitl [A1]; · iexact A1
    isplitl [B1]; · iexact B1
    isplitl [C1] <;> iassumption
  isplitl [A2 B2 C2 D2]
  · isplitl [A2]; · iexact A2
    isplitl [B2]; · iexact B2
    isplitl [C2] <;> iassumption
  isplitl [A3 B3 C3 D3]
  · isplitl [A3]; · iexact A3
    isplitl [B3]; · iexact B3
    isplitl [C3] <;> iassumption
  isplitl [A4 B4 C4 D4]
  · isplitl [A4]; · iexact A4
    isplitl [B4]; · iexact B4
    isplitl [C4] <;> iassumption
  isplitl [A5 B5 C5 D5]
  · isplitl [A5]; · iexact A5
    isplitl [B5]; · iexact B5
    isplitl [C5] <;> iassumption
  isplitl [A6 B6 C6 D6]
  · isplitl [A6]; · iexact A6
    isplitl [B6]; · iexact B6
    isplitl [C6] <;> iassumption
  iexact E

/-- The signals' payments. -/
theorem sigBits (c : Dev nD) (f : FVec F S1024x64 .bf16) :
    iprop(allOf (fun o => (dutyTok ER (barCell (rotd c o)) 0 c : sProp 𝕄)) all7 ∗ allOf (fun o => regPts c {rotd c o} f) all7) ⊢ allOf (sigBit c) all7 := by
  unfold sigBit
  simp only [all7, allOf_cons]
  iintro ⟨⟨A0, A1, A2, A3, A4, A5, A6, E⟩, B0, B1, B2, B3, B4, B5, B6, -⟩
  isplitl [A0 B0]; · isplitl [A0]; · iexact A0
                     iexists f; iexact B0
  isplitl [A1 B1]; · isplitl [A1]; · iexact A1
                     iexists f; iexact B1
  isplitl [A2 B2]; · isplitl [A2]; · iexact A2
                     iexists f; iexact B2
  isplitl [A3 B3]; · isplitl [A3]; · iexact A3
                     iexists f; iexact B3
  isplitl [A4 B4]; · isplitl [A4]; · iexact A4
                     iexists f; iexact B4
  isplitl [A5 B5]; · isplitl [A5]; · iexact A5
                     iexists f; iexact B5
  isplitl [A6 B6]; · isplitl [A6]; · iexact A6
                     iexists f; iexact B6
  iexact E

/-- The send credits, in the order the copies leave them, with the waiter's positions. -/
theorem sendBits (c : Dev nD) : iprop(allOf (sendCred (F := F) c) [6, 5, 4, 3, 2, 1, 0] ∗ allOf (posBit c) all7) ⊢ allOf (sendBit c) all7 := by
  unfold posBit sendBit
  simp only [all7, allOf_cons]
  iintro ⟨⟨A6, A5, A4, A3, A2, A1, A0, E⟩, B0, B1, B2, B3, B4, B5, B6, -⟩
  isplitl [A0 B0]; · isplitl [A0] <;> iassumption
  isplitl [A1 B1]; · isplitl [A1] <;> iassumption
  isplitl [A2 B2]; · isplitl [A2] <;> iassumption
  isplitl [A3 B3]; · isplitl [A3] <;> iassumption
  isplitl [A4 B4]; · isplitl [A4] <;> iassumption
  isplitl [A5 B5]; · isplitl [A5] <;> iassumption
  isplitl [A6 B6]; · isplitl [A6] <;> iassumption
  iexact E

/-- The share of the send buffer no copy reads. -/
def keep : PosShare TreeShare := ShareLeaves.leaf 3 fullShare (7 : Fin 8)

theorem buf_split (c : Dev nD) (f : FVec F S128x64 .bf16) :
    (bufPts c fullShare f : sProp 𝕄) = iprop(allOf (fun i => bufPts c (shr i) f) all7 ∗ bufPts c keep f) := by
  unfold bufPts
  have h := ShareLeaves.pointsTo_leaves (Ix := Unit) (Val := Elt F) (Name := ℕ) (U := UU) (Lvl := ℕ) (ℓ := (c : Thread nD τ).loc cc0_scratch1) Finset.univ f 3 fullShare
  rw [h]
  rw [show (Finset.univ : Finset (Fin (2 ^ 3))) = insert (7 : Fin 8) ((all7.map (fun i : Fin 7 => (⟨i.val, by omega⟩ : Fin 8))).toFinset) by decide,
    bigSep_insert (by decide), allOf_of_finset _ _ (by decide), allOf_map]
  have comm : ∀ X Y : sProp 𝕄, iprop(X ∗ Y) ⊢ iprop(Y ∗ X) := fun X Y => by
    iintro ⟨H, H'⟩; isplitl [H'] <;> iassumption
  exact BI.Entails.antisymm (comm _ _) (comm _ _)

/-- A device's gathering buffer as its own block and the seven others. -/
theorem reg_split (c : Dev nD) (f : FVec F S1024x64 .bf16) :
    (regPts c Finset.univ f : sProp 𝕄) ⊢ iprop(regPts c {c} f ∗ allOf (fun o => regPts c {rotd c o} f) all7) := by
  have h : (regPts c Finset.univ f : sProp 𝕄) = bigSep Finset.univ fun j => regPts c {j} f := by
    unfold regPts
    rw [rowsOf_biUnion, pointsTo_biUnion]
    exact fun i _ j _ hij => rowsOf_disjoint (Finset.disjoint_singleton.mpr hij)
  rw [h, ← Finset.insert_erase (Finset.mem_univ c), bigSep_insert (Finset.notMem_erase c _), others_rotd]
  exact Entails.refl _

/-- Any block of the gathering buffer, and the send buffer, carry the same credit. -/
theorem credit_slot (off : Fin 2 → ℕ) (inb : ∀ a, off a + S128x64.size a ≤ S1024x64.size a) :
    ((gM : Memref sig .tc .vmem S1024x64 .bf16).slice (Rect.unit (s := S1024x64) off S128x64.size inb) (fun _ => rfl)).view.dmaCredit = N := rfl
theorem credit_buf : (bM : Memref sig .tc .vmem S128x64 .bf16).view.dmaCredit = N := rfl

/-! ## The values stored -/

theorem own_rows (c : Dev nD) (h : S128x64.ShapeCasts S128x64) :
    shapeCast S128x64 (locOut (Scalar.remsi (Scalar.divsi (Dev.word c) 1#32) 8#32) (xstg m ρ c)) h = gather 128 c.val (G0 m ρ) := by
  rw [word_own]
  exact (shapeCast_self _ _).trans (gather_lvl0 (vloc m ρ) c).symm
theorem own_buf (c : Dev nD) :
    shapeCast S128x64 (locOut (Scalar.remsi (Scalar.divsi (Dev.word c) 1#32) 8#32) (xstg m ρ c)) shapeCasts_S128x64_S128x64 = vloc m ρ c :=
  (own_rows m ρ c _).trans (gather_lvl0 (vloc m ρ) c)
theorem pair_rows (c : Dev nD) (h : S256x64.ShapeCasts S256x64) :
    shapeCast S256x64 (mg256Out (Scalar.muli (floorDiv (Scalar.remsi (Scalar.divsi (Dev.word c) 1#32) 8#32) 2#32) 256#32) (gather 256 (c.val / 2) (G0 m ρ))) h
      = gather 256 (c.val / 2) (G1 m ρ) := by
  rw [word_pair]
  exact (shapeCast_self _ _).trans (gather_lvl1 (G0 m ρ) _ (pair_lt c)).symm
theorem pairs_rows (c : Dev nD) (i : Fin 3) (h : S256x64.ShapeCasts S256x64) :
    shapeCast S256x64 (mg256Out (Scalar.muli (Scalar.xori (floorDiv (Scalar.remsi (Scalar.divsi (Dev.word c) 1#32) 8#32) 2#32) (BitVec.ofNat 32 (i.val + 1))) 256#32)
        (gather 256 ((c.val / 2) ^^^ (i.val + 1)) (G0 m ρ))) h
      = gather 256 ((c.val / 2) ^^^ (i.val + 1)) (G1 m ρ) := by
  rw [word_pairs]
  exact (shapeCast_self _ _).trans (gather_lvl1 (G0 m ρ) _ (pairs_lt c i)).symm
theorem pairs_rows1 (c : Dev nD) (h : S256x64.ShapeCasts S256x64) :
    shapeCast S256x64 (mg256Out (Scalar.muli (Scalar.xori (floorDiv (Scalar.remsi (Scalar.divsi (Dev.word c) 1#32) 8#32) 2#32) 1#32) 256#32)
        (gather 256 ((c.val / 2) ^^^ 1) (G0 m ρ))) h = gather 256 ((c.val / 2) ^^^ 1) (G1 m ρ) := pairs_rows m ρ c 0 h
theorem pairs_rows2 (c : Dev nD) (h : S256x64.ShapeCasts S256x64) :
    shapeCast S256x64 (mg256Out (Scalar.muli (Scalar.xori (floorDiv (Scalar.remsi (Scalar.divsi (Dev.word c) 1#32) 8#32) 2#32) 2#32) 256#32)
        (gather 256 ((c.val / 2) ^^^ 2) (G0 m ρ))) h = gather 256 ((c.val / 2) ^^^ 2) (G1 m ρ) := pairs_rows m ρ c 1 h
theorem pairs_rows3 (c : Dev nD) (h : S256x64.ShapeCasts S256x64) :
    shapeCast S256x64 (mg256Out (Scalar.muli (Scalar.xori (floorDiv (Scalar.remsi (Scalar.divsi (Dev.word c) 1#32) 8#32) 2#32) 3#32) 256#32)
        (gather 256 ((c.val / 2) ^^^ 3) (G0 m ρ))) h = gather 256 ((c.val / 2) ^^^ 3) (G1 m ρ) := pairs_rows m ρ c 2 h
theorem quad_rows (c : Dev nD) (h : S512x64.ShapeCasts S512x64) :
    shapeCast S512x64 (mg512Out (Scalar.muli (floorDiv (Scalar.remsi (Scalar.divsi (Dev.word c) 1#32) 8#32) 4#32) 512#32) (gather 512 (c.val / 4) (G1 m ρ))) h
      = gather 512 (c.val / 4) (G2 m ρ) := by
  rw [word_quad]
  exact (shapeCast_self _ _).trans (gather_lvl2 (G1 m ρ) _ (quad_lt c)).symm
theorem quads_rows (c : Dev nD) (h : S512x64.ShapeCasts S512x64) :
    shapeCast S512x64 (mg512Out (Scalar.muli (Scalar.xori (floorDiv (Scalar.remsi (Scalar.divsi (Dev.word c) 1#32) 8#32) 4#32) 1#32) 512#32)
        (gather 512 ((c.val / 4) ^^^ 1) (G1 m ρ))) h
      = gather 512 ((c.val / 4) ^^^ 1) (G2 m ρ) := by
  rw [word_quads]
  exact (shapeCast_self _ _).trans (gather_lvl2 (G1 m ρ) _ (quads_lt c)).symm
theorem all_rows (h : S1024x64.ShapeCasts S1024x64) :
    shapeCast S1024x64 (mg1024Out (gather 1024 0 (G2 m ρ))) h = gather 1024 0 (G3 m ρ) := by
  rw [gather_all, gather_all]
  exact shapeCast_self _ _

/-! ## Between the phases -/

theorem sigLeft_nil (c : Dev nD) : (sigLeft c [] : sProp 𝕄) = iprop(Owe c (owedL (recvsL c all7)) ∗ emp) := rfl
theorem copyStart (c : Dev nD) : iprop(Owe c (owedL (recvsL c all7)) ∗ allOf (tokBit c) all7 ∗ allOf (bufBit m ρ c) all7 ∗ allOf (dstBit c) all7)
    ⊢ copyLeft m ρ c all7 [] := by
  unfold copyLeft
  iintro ⟨HO, H⟩
  isplitl [HO]; · iexact HO
  isplitl [H]; · iapply (copyBits m ρ c); iexact H
  unfold allOf; iempintro
theorem copyEnd (c : Dev nD) : copyLeft m ρ c [] [6, 5, 4, 3, 2, 1, 0] ⊢ iprop(Owe c 0 ∗ allOf (sendCred (F := F) c) [6, 5, 4, 3, 2, 1, 0]) := by
  unfold copyLeft
  iintro ⟨HO, -, H⟩
  isplitl [HO]; · iexact HO
  iexact H
theorem recvStart (c : Dev nD) :
    iprop(Owe c 0 ∗ allOf (fun i => (cred (tallyAt (recvCell c (xord c i)) () N) : sProp 𝕄)) all7 ∗ allOf (fun i => atPos ER (recvCell c (xord c i)) 0 ∅ 0) all7)
      ⊢ recvLeft c all7 [] := by
  unfold recvLeft
  iintro ⟨HO, H⟩
  isplitl [HO]; · iexact HO
  isplitl [H]; · iapply (allOf_sep (fun i => (cred (tallyAt (recvCell c (xord c i)) () N) : sProp 𝕄)) _ all7); iexact H
  unfold allOf; iempintro
theorem recvEnd (c : Dev nD) : (recvLeft c [] [6, 5, 4, 3, 2, 1, 0] : sProp 𝕄) ⊢ iprop(Owe c 0 ∗ allOf (fun i => semVal (recvCell c (xord c i)) 0) all7) := by
  unfold recvLeft recvDone
  simp only [all7, allOf_cons]
  iintro ⟨HO, -, A6, A5, A4, A3, A2, A1, A0, E⟩
  isplitl [HO]; · iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  iexact E
theorem sendStart (c : Dev nD) : iprop(Owe c 0 ∗ allOf (sendBit (F := F) c) all7) ⊢ sendLeft m ρ c all7 [] := by
  unfold sendLeft
  iintro ⟨HO, H⟩
  isplitl [HO]; · iexact HO
  isplitl [H]; · iexact H
  unfold allOf; iempintro
theorem sendEnd (c : Dev nD) : sendLeft m ρ c [] [6, 5, 4, 3, 2, 1, 0]
    ⊢ iprop(Owe c 0 ∗ allOf (fun i => bufPts c (shr i) (vloc m ρ c)) all7 ∗ allOf (fun i => semVal (sendCell c i) 0) all7) := by
  unfold sendLeft sendDone
  simp only [all7, allOf_cons]
  iintro ⟨HO, -, ⟨A6, B6⟩, ⟨A5, B5⟩, ⟨A4, B4⟩, ⟨A3, B3⟩, ⟨A2, B2⟩, ⟨A1, B1⟩, ⟨A0, B0⟩, -⟩
  isplitl [HO]; · iexact HO
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    isplitl [A6]; · iexact A6
    unfold allOf; iempintro
  isplitl [B0]; · iexact B0
  isplitl [B1]; · iexact B1
  isplitl [B2]; · iexact B2
  isplitl [B3]; · iexact B3
  isplitl [B4]; · iexact B4
  isplitl [B5]; · iexact B5
  isplitl [B6]; · iexact B6
  unfold allOf; iempintro

/-! ## The run -/

/-- The contents a buffer holds, said the way a window states them. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The round's state a device starts from: its payments' tokens, its positions, its credits. -/
def ghost (c : Dev nD) : sProp 𝕄 :=
  iprop(allOf (fun o => dutyTok ER (barCell (rotd c o)) 0 c) all7 ∗ allOf (tokBit c) all7
    ∗ atPos ER (barCell c) 0 ∅ 0 ∗ allOf (posBit c) all7 ∗ allOf (fun i => atPos ER (recvCell c (xord c i)) 0 ∅ 0) all7)

def creds (c : Dev nD) : sProp 𝕄 :=
  iprop(cred (tallyAt (barCell c) () 7) ∗ allOf (fun i => cred (tallyAt (recvCell c (xord c i)) () N)) all7)

/-- The counters a device leaves: every one of the protocol's it waited on, at zero. -/
def closed (c : Dev nD) : sProp 𝕄 :=
  iprop(semVal (barCell c) 0 ∗ allOf (fun i => semVal (sendCell c i) 0) all7 ∗ allOf (fun i => semVal (recvCell c (xord c i)) 0) all7)

def runPre (c : Dev nD) : sProp 𝕄 :=
  iprop(records m ρ K ∗ levAts L lv ∗ ghost c ∗ creds c ∗ Owe c (dues c)
    ∗ (∃ f, regPts c Finset.univ f) ∗ (∃ f, bufPts c fullShare f)
    ∗ (((c : Thread nD τ).loc cc0_stg0_0) ↦{fullShare} xstg m ρ c) ∗ (∃ f, (((c : Thread nD τ).loc cc0_stg1_0) ↦{fullShare} f)))

def runPost (c : Dev nD) : sProp 𝕄 :=
  iprop(closed c ∗ Owe c 0 ∗ regPts c Finset.univ (G3 m ρ) ∗ bufPts c fullShare (vloc m ρ c)
    ∗ (((c : Thread nD τ).loc cc0_stg0_0) ↦{fullShare} xstg m ρ c) ∗ (((c : Thread nD τ).loc cc0_stg1_0) ↦{fullShare} outAt m ρ c))

end Cert.KernelIdeal.Run

end
-- ==== Proof.KernelIdealRun.lean ====
/- The whole body, run effect by effect at a symbolic device. -/
module

public import proofs.«01_k».proof.Proof.KernelIdealBody

@[expose] public section

set_option maxRecDepth 65536

noncomputable section

namespace Cert.KernelIdeal.Run

open Cert.KernelIdeal Cert.KernelIdeal.Gen Cert.Bitonic Cert.KernelIdeal.Parts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

set_option maxHeartbeats 1000000 in
theorem run_body (c : Dev nD) (Q : PUnit → sProp 𝕄) :
    iprop(runPre m ρ K c ∗ (runPost m ρ c -∗ Q ⟨⟩))
      ⊢ Wp c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Q := by
  rw [cc0_body_eq_skeleton]; unfold cc0_body_skel
  rw [k0_part1_eq_skeleton, k0_part2_eq_skeleton, k0_part3_eq_skeleton]
  unfold k0_part1_skel k0_part2_skel k0_part3_skel
  simp only [semSignalWord, Prog.lift, Prog.bind_op, Prog.bind_ret, Prog.pure_eq_ret, wp_deviceId]
  unfold runPre ghost creds
  iintro ⟨⟨#HR, #Hlev, ⟨HtB, HtC, HaB, HaS, HaR⟩, ⟨HcB, HcR⟩, HO, ⟨%fg, Hg⟩, ⟨%fb, Hb⟩, Hx, ⟨%fo, Ho⟩⟩, Hk⟩
  ihave Hg' := (reg_split c fg) $$ Hg
  icases Hg' with ⟨Hown, Hoth⟩
  ihave Hs : sigLeft c all7 $$ [HO HtB Hoth]
  · unfold sigLeft
    isplitl [HO]; · iexact HO
    iapply (sigBits c fg)
    isplitl [HtB] <;> iassumption
  iapply (step_signal m ρ K c _ 0 [1, 2, 3, 4, 5, 6] (dev1_at c)) $$ [Hs]
  · isplitr; · iexact HR
    iexact Hs
  iintro Hs
  iapply (step_signal m ρ K c _ 1 [2, 3, 4, 5, 6] (dev2_at c)) $$ [Hs]
  · isplitr; · iexact HR
    iexact Hs
  iintro Hs
  iapply (step_signal m ρ K c _ 2 [3, 4, 5, 6] (dev3_at c)) $$ [Hs]
  · isplitr; · iexact HR
    iexact Hs
  iintro Hs
  iapply (step_signal m ρ K c _ 3 [4, 5, 6] (dev4_at c)) $$ [Hs]
  · isplitr; · iexact HR
    iexact Hs
  iintro Hs
  iapply (step_signal m ρ K c _ 4 [5, 6] (dev5_at c)) $$ [Hs]
  · isplitr; · iexact HR
    iexact Hs
  iintro Hs
  iapply (step_signal m ρ K c _ 5 [6] (dev6_at c)) $$ [Hs]
  · isplitr; · iexact HR
    iexact Hs
  iintro Hs
  iapply (step_signal m ρ K c _ 6 [] (dev7_at c)) $$ [Hs]
  · isplitr; · iexact HR
    iexact Hs
  iintro Hs
  rw [part4_eq]; simp only [semWaitWord, Prog.lift, Prog.bind_op, Prog.bind_ret, Prog.pure_eq_ret]
  -- its own rows, sorted, into the send buffer and its own block
  iapply (wp_load 𝒱₀ (c : Thread nD τ) none Set.univ (m := xM) (Finset.subset_univ _)) $$ Hx; iintro Hx
  rw [read_x]
  rw [part5_eq]; simp only [Prog.bind_op, Prog.bind_ret, Prog.pure_eq_ret]
  rw [part6_eq]; simp only [Prog.bind_op, Prog.bind_ret, Prog.pure_eq_ret]
  rw [part7_eq]; simp only [Prog.bind_op, Prog.bind_ret, Prog.pure_eq_ret]
  rw [part8_eq]; simp only [Prog.bind_op, Prog.bind_ret, Prog.pure_eq_ret]
  rw [part9_eq]; simp only [Prog.bind_op, Prog.bind_ret, Prog.pure_eq_ret]
  rw [part10_eq]; simp only [Prog.bind_op, Prog.bind_ret, Prog.pure_eq_ret]
  rw [part11_eq]; simp only [Prog.bind_op, Prog.bind_ret, Prog.pure_eq_ret]
  rw [part12_eq]; simp only [Prog.bind_op, Prog.bind_ret, Prog.pure_eq_ret]
  rw [part13_eq]; simp only [semWaitWord, Prog.lift, Prog.bind_op, Prog.bind_ret, Prog.pure_eq_ret]
  ihave Hown := (Entails.of_eq (congrArg (fun S => (regPts c S fg : sProp 𝕄)) (seg_one c).symm)) $$ Hown
  iapply (step_load c 128 1 c.val Nat.one_pos rfl (off1_at c) (S := seg 1 c.val) (Finset.Subset.refl _) fg) $$ Hown; iintro Hown
  iapply (step_store c 128 1 c.val Nat.one_pos rfl (off1_at c) fg (G0 m ρ) (own_rows m ρ c _)) $$ Hown; iintro Hown
  unfold bufPts
  iapply (wp_load 𝒱₀ (c : Thread nD τ) none Set.univ (m := bM) (Finset.subset_univ _)) $$ Hb; iintro Hb
  rw [k0_part14_eq_skeleton]
  unfold k0_part14_skel
  simp only [semWaitWord, Prog.lift, Prog.bind_op, Prog.bind_ret, Prog.pure_eq_ret]
  iapply (wp_store 𝒱₀ (c : Thread nD τ) none Set.univ (m := bM) (r := rx) (Mk := Finset.univ) (Finset.subset_univ _)) $$ Hb; iintro Hb
  rw [write_buf, own_buf m ρ c]
  ihave Hb : bufPts c fullShare (vloc m ρ c) $$ [Hb]
  · unfold bufPts; iexact Hb
  -- the barrier
  ihave Hs := (Entails.of_eq (sigLeft_nil c)) $$ Hs
  icases Hs with ⟨Hs, -⟩
  iapply (step_barrier m ρ K c) $$ [HcB Hs HaB]
  · isplitr; · iexact HR
    isplitr; · iexact Hlev
    isplitl [HcB]; · iexact HcB
    isplitl [Hs] <;> iassumption
  iintro ⟨HO, HzB, Hdst⟩
  -- the copies
  ihave Hb' := (Entails.of_eq (buf_split c (vloc m ρ c))) $$ Hb
  icases Hb' with ⟨Hbs, Hkeep⟩
  ihave Hc : copyLeft m ρ c all7 [] $$ [HO HtC Hbs Hdst]
  · iapply (copyStart m ρ c)
    isplitl [HO]; · iexact HO
    isplitl [HtC]; · iexact HtC
    isplitl [Hbs]; · unfold bufBit; iexact Hbs
    unfold dstBit; iexact Hdst
  iapply (step_copy m ρ K c _ 0 [1, 2, 3, 4, 5, 6] [] (dev8_at c) rfl (recv_sem c)) $$ [Hc]
  · isplitr; · iexact HR
    iexact Hc
  iintro Hc
  iapply (step_copy m ρ K c _ 1 [2, 3, 4, 5, 6] [0] (dev9_at c) rfl (recv_sem c)) $$ [Hc]
  · isplitr; · iexact HR
    iexact Hc
  iintro Hc
  iapply (step_copy m ρ K c _ 2 [3, 4, 5, 6] [1, 0] (dev10_at c) rfl (recv_sem c)) $$ [Hc]
  · isplitr; · iexact HR
    iexact Hc
  iintro Hc
  rw [part15_eq]; simp only [semWaitWord, Prog.lift, Prog.bind_op, Prog.bind_ret, Prog.pure_eq_ret]
  iapply (step_copy m ρ K c _ 3 [4, 5, 6] [2, 1, 0] (dev11_at c) rfl (recv_sem c)) $$ [Hc]
  · isplitr; · iexact HR
    iexact Hc
  iintro Hc
  iapply (step_copy m ρ K c _ 4 [5, 6] [3, 2, 1, 0] (dev12_at c) rfl (recv_sem c)) $$ [Hc]
  · isplitr; · iexact HR
    iexact Hc
  iintro Hc
  iapply (step_copy m ρ K c _ 5 [6] [4, 3, 2, 1, 0] (dev13_at c) rfl (recv_sem c)) $$ [Hc]
  · isplitr; · iexact HR
    iexact Hc
  iintro Hc
  iapply (step_copy m ρ K c _ 6 [] [5, 4, 3, 2, 1, 0] (dev14_at c) rfl (recv_sem c)) $$ [Hc]
  · isplitr; · iexact HR
    iexact Hc
  iintro Hc
  ihave Hc' := (copyEnd m ρ c) $$ Hc
  icases Hc' with ⟨HO, Hcs⟩
  ihave Hsb : allOf (sendBit c) all7 $$ [Hcs HaS]
  · iapply (sendBits c)
    isplitl [Hcs] <;> iassumption
  ihave Hr : recvLeft c all7 [] $$ [HO HcR HaR]
  · iapply (recvStart c)
    isplitl [HO]; · iexact HO
    isplitl [HcR] <;> iassumption
  ihave Hown := (Entails.of_eq (congrArg (fun S => (regPts c S (G0 m ρ) : sProp 𝕄)) (seg_one c))) $$ Hown
  -- the pair
  rw [part16_eq]; simp only [semWaitWord, Prog.lift, Prog.bind_op, Prog.bind_ret, Prog.pure_eq_ret]
  iapply (step_recv m ρ K c 0 [1, 2, 3, 4, 5, 6] [] (wait_sem1 c) (credit_slot _ _)) $$ [Hr]
  · isplitr; · iexact HR
    iexact Hr
  iintro ⟨Hr, Hp⟩
  ihave HA : regPts c (seg 2 (c.val / 2)) (G0 m ρ) $$ [Hown Hp]
  · iapply (reg_join c ({c}) ({xord c 0}) (seg 2 (c.val / 2)) (G0 m ρ) (one_pair c).1 (one_pair c).2)
    isplitl [Hown] <;> iassumption
  iapply (step_load c 256 2 (c.val / 2) (by decide) rfl (off6_at c) (S := seg 2 (c.val / 2)) (Finset.Subset.refl _) (G0 m ρ)) $$ HA; iintro HA
  rw [part17_eq]; simp only [Prog.bind_op, Prog.bind_ret, Prog.pure_eq_ret]
  rw [part18_eq]; simp only [Prog.bind_op, Prog.bind_ret, Prog.pure_eq_ret]
  rw [part19_eq]; simp only [semWaitWord, Prog.lift, Prog.bind_op, Prog.bind_ret, Prog.pure_eq_ret]
  iapply (step_load c 256 2 (c.val / 2) (by decide) rfl (off6_at c) (S := seg 2 (c.val / 2)) (Finset.Subset.refl _) (G0 m ρ)) $$ HA; iintro HA
  iapply (step_store c 256 2 (c.val / 2) (by decide) rfl (off6_at c) (G0 m ρ) (G1 m ρ) (pair_rows m ρ c _)) $$ HA; iintro HA
  -- the other pair of its four
  iapply (step_recv m ρ K c 1 [2, 3, 4, 5, 6] [0] (wait_sem2 c) (credit_slot _ _)) $$ [Hr]
  · isplitr; · iexact HR
    iexact Hr
  iintro ⟨Hr, Hp⟩
  rw [part20_eq]; simp only [semWaitWord, Prog.lift, Prog.bind_op, Prog.bind_ret, Prog.pure_eq_ret]
  iapply (step_recv m ρ K c 2 [3, 4, 5, 6] [1, 0] (wait_sem3 c) (credit_slot _ _)) $$ [Hr]
  · isplitr; · iexact HR
    iexact Hr
  iintro ⟨Hr, Hq⟩
  ihave HB : regPts c (seg 2 ((c.val / 2) ^^^ 1)) (G0 m ρ) $$ [Hp Hq]
  · iapply (reg_join c ({xord c 1}) ({xord c 2}) (seg 2 ((c.val / 2) ^^^ 1)) (G0 m ρ) (pair1 c).1 (pair1 c).2)
    isplitl [Hp] <;> iassumption
  iapply (step_load c 256 2 ((c.val / 2) ^^^ 1) (by decide) rfl (off7_at1 c) (S := seg 2 ((c.val / 2) ^^^ 1)) (Finset.Subset.refl _) (G0 m ρ)) $$ HB; iintro HB
  rw [part21_eq]; simp only [Prog.bind_op, Prog.bind_ret, Prog.pure_eq_ret]
  rw [part22_eq]; simp only [semWaitWord, Prog.lift, Prog.bind_op, Prog.bind_ret, Prog.pure_eq_ret]
  iapply (step_load c 256 2 ((c.val / 2) ^^^ 1) (by decide) rfl (off7_at1 c) (S := seg 2 ((c.val / 2) ^^^ 1)) (Finset.Subset.refl _) (G0 m ρ)) $$ HB; iintro HB
  iapply (step_store c 256 2 ((c.val / 2) ^^^ 1) (by decide) rfl (off7_at1 c) (G0 m ρ) (G1 m ρ) (pairs_rows1 m ρ c _)) $$ HB; iintro HB
  ihave HA : regPts c (seg 4 (c.val / 4)) (G1 m ρ) $$ [HA HB]
  · iapply (reg_join c (seg 2 (c.val / 2)) (seg 2 ((c.val / 2) ^^^ 1)) (seg 4 (c.val / 4)) (G1 m ρ) (one_quad c).1 (one_quad c).2)
    isplitl [HA] <;> iassumption
  iapply (step_load c 512 4 (c.val / 4) (by decide) rfl (off8_at c) (S := seg 4 (c.val / 4)) (Finset.Subset.refl _) (G1 m ρ)) $$ HA; iintro HA
  rw [part23_eq]; simp only [Prog.bind_op, Prog.bind_ret, Prog.pure_eq_ret]
  rw [part24_eq]; simp only [Prog.bind_op, Prog.bind_ret, Prog.pure_eq_ret]
  rw [part25_eq]; simp only [semWaitWord, Prog.lift, Prog.bind_op, Prog.bind_ret, Prog.pure_eq_ret]
  iapply (step_load c 512 4 (c.val / 4) (by decide) rfl (off8_at c) (S := seg 4 (c.val / 4)) (Finset.Subset.refl _) (G1 m ρ)) $$ HA; iintro HA
  iapply (step_store c 512 4 (c.val / 4) (by decide) rfl (off8_at c) (G1 m ρ) (G2 m ρ) (quad_rows m ρ c _)) $$ HA; iintro HA
  -- the other four
  rw [part26_eq]; simp only [semWaitWord, Prog.lift, Prog.bind_op, Prog.bind_ret, Prog.pure_eq_ret]
  iapply (step_recv m ρ K c 3 [4, 5, 6] [2, 1, 0] (wait_sem4 c) (credit_slot _ _)) $$ [Hr]
  · isplitr; · iexact HR
    iexact Hr
  iintro ⟨Hr, Hp⟩
  iapply (step_recv m ρ K c 4 [5, 6] [3, 2, 1, 0] (wait_sem5 c) (credit_slot _ _)) $$ [Hr]
  · isplitr; · iexact HR
    iexact Hr
  iintro ⟨Hr, Hq⟩
  ihave HB : regPts c (seg 2 ((c.val / 2) ^^^ 2)) (G0 m ρ) $$ [Hp Hq]
  · iapply (reg_join c ({xord c 3}) ({xord c 4}) (seg 2 ((c.val / 2) ^^^ 2)) (G0 m ρ) (pair2 c).1 (pair2 c).2)
    isplitl [Hp] <;> iassumption
  iapply (step_load c 256 2 ((c.val / 2) ^^^ 2) (by decide) rfl (off7_at2 c) (S := seg 2 ((c.val / 2) ^^^ 2)) (Finset.Subset.refl _) (G0 m ρ)) $$ HB; iintro HB
  rw [part27_eq]; simp only [Prog.bind_op, Prog.bind_ret, Prog.pure_eq_ret]
  rw [part28_eq]; simp only [Prog.bind_op, Prog.bind_ret, Prog.pure_eq_ret]
  rw [part29_eq]; simp only [semWaitWord, Prog.lift, Prog.bind_op, Prog.bind_ret, Prog.pure_eq_ret]
  iapply (step_load c 256 2 ((c.val / 2) ^^^ 2) (by decide) rfl (off7_at2 c) (S := seg 2 ((c.val / 2) ^^^ 2)) (Finset.Subset.refl _) (G0 m ρ)) $$ HB; iintro HB
  iapply (step_store c 256 2 ((c.val / 2) ^^^ 2) (by decide) rfl (off7_at2 c) (G0 m ρ) (G1 m ρ) (pairs_rows2 m ρ c _)) $$ HB; iintro HB
  iapply (step_recv m ρ K c 5 [6] [4, 3, 2, 1, 0] (wait_sem6 c) (credit_slot _ _)) $$ [Hr]
  · isplitr; · iexact HR
    iexact Hr
  iintro ⟨Hr, Hp⟩
  iapply (step_recv m ρ K c 6 [] [5, 4, 3, 2, 1, 0] (wait_sem7 c) (credit_slot _ _)) $$ [Hr]
  · isplitr; · iexact HR
    iexact Hr
  iintro ⟨Hr, Hq⟩
  ihave HC : regPts c (seg 2 ((c.val / 2) ^^^ 3)) (G0 m ρ) $$ [Hp Hq]
  · iapply (reg_join c ({xord c 5}) ({xord c 6}) (seg 2 ((c.val / 2) ^^^ 3)) (G0 m ρ) (pair3 c).1 (pair3 c).2)
    isplitl [Hp] <;> iassumption
  iapply (step_load c 256 2 ((c.val / 2) ^^^ 3) (by decide) rfl (off7_at3 c) (S := seg 2 ((c.val / 2) ^^^ 3)) (Finset.Subset.refl _) (G0 m ρ)) $$ HC; iintro HC
  rw [part30_eq]; simp only [Prog.bind_op, Prog.bind_ret, Prog.pure_eq_ret]
  rw [part31_eq]; simp only [Prog.bind_op, Prog.bind_ret, Prog.pure_eq_ret]
  rw [part32_eq]; simp only [semWaitWord, Prog.lift, Prog.bind_op, Prog.bind_ret, Prog.pure_eq_ret]
  iapply (step_load c 256 2 ((c.val / 2) ^^^ 3) (by decide) rfl (off7_at3 c) (S := seg 2 ((c.val / 2) ^^^ 3)) (Finset.Subset.refl _) (G0 m ρ)) $$ HC; iintro HC
  iapply (step_store c 256 2 ((c.val / 2) ^^^ 3) (by decide) rfl (off7_at3 c) (G0 m ρ) (G1 m ρ) (pairs_rows3 m ρ c _)) $$ HC; iintro HC
  ihave HB : regPts c (seg 4 ((c.val / 4) ^^^ 1)) (G1 m ρ) $$ [HB HC]
  · iapply (reg_join c (seg 2 ((c.val / 2) ^^^ 2)) (seg 2 ((c.val / 2) ^^^ 3)) (seg 4 ((c.val / 4) ^^^ 1)) (G1 m ρ) (quad1 c).1 (quad1 c).2)
    isplitl [HB] <;> iassumption
  iapply (step_load c 512 4 ((c.val / 4) ^^^ 1) (by decide) rfl (off9_at c) (S := seg 4 ((c.val / 4) ^^^ 1)) (Finset.Subset.refl _) (G1 m ρ)) $$ HB; iintro HB
  rw [part33_eq]; simp only [Prog.bind_op, Prog.bind_ret, Prog.pure_eq_ret]
  rw [part34_eq]; simp only [Prog.bind_op, Prog.bind_ret, Prog.pure_eq_ret]
  rw [part35_eq]; simp only [semWaitWord, Prog.lift, Prog.bind_op, Prog.bind_ret, Prog.pure_eq_ret]
  iapply (step_load c 512 4 ((c.val / 4) ^^^ 1) (by decide) rfl (off9_at c) (S := seg 4 ((c.val / 4) ^^^ 1)) (Finset.Subset.refl _) (G1 m ρ)) $$ HB; iintro HB
  iapply (step_store c 512 4 ((c.val / 4) ^^^ 1) (by decide) rfl (off9_at c) (G1 m ρ) (G2 m ρ) (quads_rows m ρ c _)) $$ HB; iintro HB
  -- all of it
  ihave HA : regPts c (seg 8 0) (G2 m ρ) $$ [HA HB]
  · iapply (reg_join c (seg 4 (c.val / 4)) (seg 4 ((c.val / 4) ^^^ 1)) (seg 8 0) (G2 m ρ) (all_quads c).1 (all_quads c).2)
    isplitl [HA] <;> iassumption
  iapply (step_load c 1024 8 (0) (by decide) rfl rfl (S := seg 8 (0)) (Finset.Subset.refl _) (G2 m ρ)) $$ HA; iintro HA
  rw [part36_eq]; simp only [Prog.bind_op, Prog.bind_ret, Prog.pure_eq_ret]
  rw [part37_eq]; simp only [Prog.bind_op, Prog.bind_ret, Prog.pure_eq_ret]
  rw [part38_eq]; simp only [Prog.bind_op, Prog.bind_ret, Prog.pure_eq_ret]
  rw [part39_eq]; simp only [semWaitWord, Prog.lift, Prog.bind_op, Prog.bind_ret, Prog.pure_eq_ret]
  iapply (step_load c 1024 8 (0) (by decide) rfl rfl (S := seg 8 (0)) (Finset.Subset.refl _) (G2 m ρ)) $$ HA; iintro HA
  iapply (step_store c 1024 8 (0) (by decide) rfl rfl (G2 m ρ) (G3 m ρ) (all_rows m ρ _)) $$ HA; iintro HA
  iapply (step_load c 128 1 c.val Nat.one_pos rfl (off1_at c) (S := seg 8 0) (seg_all ▸ Finset.subset_univ _) (G3 m ρ)) $$ HA; iintro HA
  iapply (wp_load 𝒱₀ (c : Thread nD τ) none Set.univ (m := oM) (Finset.subset_univ _)) $$ Ho; iintro Ho
  iapply (wp_store 𝒱₀ (c : Thread nD τ) none Set.univ (m := oM) (r := rx) (Mk := Finset.univ) (Finset.subset_univ _)) $$ Ho; iintro Ho
  rw [write_out]
  -- the send semaphores
  ihave Hr' := (recvEnd c) $$ Hr
  icases Hr' with ⟨HO, HzR⟩
  ihave Hs : sendLeft m ρ c all7 [] $$ [HO Hsb]
  · iapply (sendStart m ρ c)
    isplitl [HO] <;> iassumption
  iapply (step_sent m ρ K c 0 [1, 2, 3, 4, 5, 6] [] rfl credit_buf) $$ [Hs]
  · isplitr; · iexact HR
    iexact Hs
  iintro Hs
  iapply (step_sent m ρ K c 1 [2, 3, 4, 5, 6] [0] rfl credit_buf) $$ [Hs]
  · isplitr; · iexact HR
    iexact Hs
  iintro Hs
  iapply (step_sent m ρ K c 2 [3, 4, 5, 6] [1, 0] rfl credit_buf) $$ [Hs]
  · isplitr; · iexact HR
    iexact Hs
  iintro Hs
  iapply (step_sent m ρ K c 3 [4, 5, 6] [2, 1, 0] rfl credit_buf) $$ [Hs]
  · isplitr; · iexact HR
    iexact Hs
  iintro Hs
  iapply (step_sent m ρ K c 4 [5, 6] [3, 2, 1, 0] rfl credit_buf) $$ [Hs]
  · isplitr; · iexact HR
    iexact Hs
  iintro Hs
  iapply (step_sent m ρ K c 5 [6] [4, 3, 2, 1, 0] rfl credit_buf) $$ [Hs]
  · isplitr; · iexact HR
    iexact Hs
  iintro Hs
  iapply (step_sent m ρ K c 6 [] [5, 4, 3, 2, 1, 0] rfl credit_buf) $$ [Hs]
  · isplitr; · iexact HR
    iexact Hs
  iintro Hs
  unfold Wp; rw [wp_ret]; imodintro
  ihave Hs' := (sendEnd m ρ c) $$ Hs
  icases Hs' with ⟨HO, Hbs, HzS⟩
  iapply Hk
  unfold runPost closed
  isplitl [HzB HzS HzR]
  · isplitl [HzB]; · iexact HzB
    isplitl [HzS] <;> iassumption
  isplitl [HO]; · iexact HO
  isplitl [HA]; · rw [← seg_all]; iexact HA
  isplitl [Hbs Hkeep]
  · rw [buf_split c (vloc m ρ c)]
    isplitl [Hbs] <;> iassumption
  isplitl [Hx]; · iexact Hx
  iexact Ho

end Cert.KernelIdeal.Run

end
-- ==== Proof.KernelIdealLaunch.lean ====
/- The launch: what each device is dealt, and the run of the whole program. -/
module

public import proofs.«01_k».proof.Proof.KernelIdealRun
public import proofs.«01_k».proof.Proof.Gen.KernelIdeal.Points
public import Idealize.ShloMosaic.Lib.Pipeline.CollectiveSegs

@[expose] public section

set_option maxRecDepth 8000

noncomputable section

namespace Cert.KernelIdeal.Run

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ownSems0)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel holds before and after -/

/-- A device's records, tokens and positions; its position at the receive semaphore no copy uses is apart. -/
def dealt (c : Dev nD) : sProp 𝕄 :=
  iprop(∃ K, records m ρ K ∗ ghost c ∗ atPos ER (recvCell c c) 0 ∅ 0)

def bufs (c : Dev nD) : sProp 𝕄 := iprop((∃ f, regPts c Finset.univ f) ∗ (∃ f, bufPts c fullShare f))

def start (c : Dev nD) : sProp 𝕄 := iprop(dealt m ρ c ∗ creds c ∗ levAts L lv)
def Φ₀ (c : Dev nD) : sProp 𝕄 := iprop(start m ρ c ∗ bufs c)
def Φ₁ (c : Dev nD) : sProp 𝕄 := iprop((closed c ∗ semVal (recvCell c c) 0) ∗ bufs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => dues c
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem staged (c : Dev nD) (d) : (dats (F := F) m ρ 0 c).before (0 : Fin 2) t0_0 d = xstg m ρ c := by
  unfold Dat.before; rw [if_pos (fetch0_0 _)]; rfl

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (outAt m ρ c))

theorem unused_duties (c : Dev nD) : ∀ r, 0 ≤ r → (rd (F := F) m ρ).duties (recvCell c c) r = ∅ := fun r _ => by
  rcases Nat.eq_zero_or_pos r with rfl | h
  · exact (duties_cell m ρ c (some (.inr c))).trans (if_pos rfl)
  · exact duties_later m ρ _ r h

set_option maxHeartbeats 1000000 in
theorem body_at (c : Dev nD) : bodyPre m ρ c ⊢
    Wp c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
      (fun _ => bodyPost m ρ c) := by
  unfold bodyPre Φ₀ start dealt bufs Dat.owesAt Pipeline.owesWithin
  rw [show (dats m ρ 0 c).owed t0_0.castSucc = dues c from rfl]
  iintro ⟨⟨⟨⟨%K, #HR, HG, HaN⟩, Hcr, Hlev⟩, Hg, Hb⟩, ⟨%W, -, HO⟩, ⟨%d0, ⟨%x, %hx, Hx⟩⟩, ⟨%d1, ⟨%o, -, Ho⟩⟩⟩
  rw [staged] at hx
  subst hx
  unfold Wp
  imod (Rounds.cell_close ER (rd m ρ) (Set.mem_univ (K (c, some (.inr c)))) (fun h => h) (R := 0) (unused_duties m ρ c)) $$ [HaN] with HzN
  · isplitr; · iapply (inv_at m ρ K (c, some (.inr c))); iexact HR
    iexact HaN
  iapply (run_body m ρ K c fun _ => bodyPost m ρ c)
  isplitl [HG Hcr Hlev Hg Hb HO Hx Ho]
  · unfold runPre
    isplitr; · iexact HR
    isplitl [Hlev]; · iexact Hlev
    isplitl [HG]; · iexact HG
    isplitl [Hcr]; · iexact Hcr
    isplitl [HO]; · unfold Owe; iexists W; iexact HO
    isplitl [Hg]; · iexact Hg
    isplitl [Hb]; · iexact Hb
    isplitl [Hx]; · iexact Hx
    iexists o; iexact Ho
  unfold runPost bodyPost Φ₁ bufs Dat.owesAt Pipeline.owesWithin Owe
  rw [show (dats m ρ 0 c).owed t0_0.succ = 0 from rfl]
  iintro ⟨Hcl, ⟨%W', HO⟩, Hg, Hb, Hx, Ho⟩
  isplitl [Hcl HzN Hg Hb]
  · isplitl [Hcl HzN]
    · isplitl [Hcl] <;> iassumption
    isplitl [Hg]
    · iexists _; iexact Hg
    iexists _; iexact Hb
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_at m ρ c

/-! ## Semaphores, tokens and positions dealt to the devices -/

theorem over_Ck (Φ : Ck → sProp 𝕄) : bigSep Finset.univ Φ
    = iprop((allOf (fun i => Φ (some (.inl i))) all7 ∗ bigSep Finset.univ fun j : Fin 8 => Φ (some (.inr j))) ∗ Φ none) := by
  have h : ∀ Ψ : PUnit.{1} → sProp 𝕄, bigSep Finset.univ Ψ = Ψ PUnit.unit := fun Ψ => by rw [Finset.univ_unique, bigSep_singleton]
  rw [bigSep_univ_equiv (Equiv.optionEquivSumPUnit.{0, 0} (Fin 7 ⊕ Fin 8)).symm Φ, bigSep_univ_sum, bigSep_univ_sum, h, fin7_all]
  rfl

theorem over_recv (c : Dev nD) (Φ : Dev nD → sProp 𝕄) : bigSep Finset.univ Φ = iprop(Φ c ∗ allOf (fun i => Φ (xord c i)) all7) := by
  rw [← Finset.insert_erase (Finset.mem_univ c), bigSep_insert (Finset.notMem_erase c _), others_xord]
  rfl

abbrev osem : Fin 15 → SemLoc sig := fun k => .dma ⟨k.val + 2, by have := k.isLt; show _ < 17; omega⟩

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Ck → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl
def ringCells : Finset (GSem nD τ sig) := Finset.univ.map ⟨kcell, kcell_injective⟩

/-- The tokens of the payments a device makes: to the other barriers, to the other devices' receive semaphores,
    to its own send semaphores. -/
abbrev tokCell (c : Dev nD) (t : Fin 7 ⊕ Fin 7 ⊕ Fin 7) : GSem nD τ sig := match t with
  | .inl o => barCell (rotd c o) | .inr (.inl i) => sendCell c i | .inr (.inr i) => recvCell (xord c i) c
abbrev tokOf (ct : Dev nD × (Fin 7 ⊕ Fin 7 ⊕ Fin 7)) : GSem nD τ sig × ℕ × Dev nD := (tokCell ct.1 ct.2, 0, ct.1)

theorem rotd_inj (c : Dev nD) : Function.Injective (rotd c) := by revert c; decide
theorem xord_inj (c : Dev nD) : Function.Injective (xord c) := by revert c; decide

theorem tokCell_injective (c : Dev nD) : Function.Injective (tokCell c) := by
  have hd : ∀ {a b : Dev nD} {s t : SemLoc sig}, (((a : Thread nD τ), s) : GSem nD τ sig) = ((b : Thread nD τ), t) → a = b ∧ s = t := fun h =>
    ⟨congrArg (fun g : GSem nD τ sig => g.1.1) h, congrArg Prod.snd h⟩
  rintro (a | a | a) (b | b | b) h
  · rw [rotd_inj c (hd h).1]
  · exact absurd (hd h).2 (fun h => by cases h)
  · exact absurd (hd h).2 (fun h => by cases h)
  · exact absurd (hd h).2 (fun h => by cases h)
  · have h' := csem_injective (show csem (some (.inl a)) = csem (some (.inl b)) from (hd h).2)
    cases h'; rfl
  · have h' := csem_injective (show csem (some (.inl a)) = csem (some (.inr c)) from (hd h).2)
    cases h'
  · exact absurd (hd h).2 (fun h => by cases h)
  · have h' := csem_injective (show csem (some (.inr c)) = csem (some (.inl b)) from (hd h).2)
    cases h'
  · rw [xord_inj c (hd h).1]

theorem tokOf_injective : Function.Injective (tokOf : Dev nD × (Fin 7 ⊕ Fin 7 ⊕ Fin 7) → GSem nD τ sig × ℕ × Dev nD) := by
  rintro ⟨c, t⟩ ⟨c', t'⟩ h
  have h1 : c = c' := congrArg (fun x : GSem nD τ sig × ℕ × Dev nD => x.2.2) h
  subst h1
  have h2 : t = t' := tokCell_injective c (congrArg Prod.fst h)
  subst h2; rfl
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop(allOf (fun o => dutyTok ER (barCell (rotd c o)) 0 c) all7 ∗ allOf (fun i => dutyTok ER (sendCell c i) 0 c) all7
    ∗ allOf (fun i => dutyTok ER (recvCell (xord c i) c) 0 c) all7)

def places (c : Dev nD) : sProp 𝕄 := bigSep Finset.univ fun k : Ck => atPos ER (kcell (c, k)) 0 ∅ 0

/-- What the launch deals device `c`, and what the step over all devices makes of it. -/
def G (c : Dev nD) : sProp 𝕄 :=
  iprop((bigSep Finset.univ fun k : Ck => roundState ER (rd m ρ) (kcell (c, k)) 0)
    ∗ (bigSep Finset.univ fun k : Ck => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum, fin7_all, fin7_all, fin7_all]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (ownSems0 (Ix := Unit) (Name := ℕ) (U := UU) (Lvl := ℕ) (Val := Elt F) (τ := τ) osem c : sProp 𝕄)
    = iprop(allOf (fun i => semVal (sendCell c i) 0) all7 ∗ bigSep Finset.univ fun j : Fin 8 => semVal (recvCell c j) 0) := by
  unfold ownSems0
  rw [bigSep_univ_equiv (finSumFinEquiv (m := 7) (n := 8)), bigSep_univ_sum, fin7_all]
  have h1 : ∀ i : Fin 7, osem (finSumFinEquiv (m := 7) (n := 8) (Sum.inl i)) = .dma (sendS i) := by decide
  have h2 : ∀ j : Fin 8, osem (finSumFinEquiv (m := 7) (n := 8) (Sum.inr j)) = .dma (recvS j) := by decide
  simp only [h1, h2]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(ownSems0 (Ix := Unit) (Name := ℕ) (U := UU) (Lvl := ℕ) (Val := Elt F) (τ := τ) osem c ∗ unscopedSems0 c)
      = (bigSep Finset.univ fun k : Ck => semVal (kcell (c, k)) 0 : sProp 𝕄) := by
  rw [ownSems0_eq, unscopedSems0_eq, over_Ck]

theorem core_alloc (c : Dev nD) :
    iprop(ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Ck => semVal (kcell (c, k)) 0) ∗ bigSep Finset.univ fun k : Ck => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem dealt_intro (K : Dev nD × Ck → ℕ) (c : Dev nD) : iprop(records m ρ K ∗ places c ∗ toks c) ⊢ dealt m ρ c := by
  unfold places toks dealt ghost
  rw [over_Ck, over_recv c fun j => (atPos ER (kcell (c, some (.inr j))) 0 ∅ 0 : sProp 𝕄)]
  iintro ⟨HR, ⟨⟨HaS, HaN, HaR⟩, HaB⟩, HtB, HtS, HtR⟩
  iexists K
  isplitl [HR]; · iexact HR
  isplitr [HaN]
  · isplitl [HtB]; · iexact HtB
    isplitl [HtS HtR]
    · iapply (allOf_sep (fun i => (dutyTok ER (sendCell c i) 0 c : sProp 𝕄)) (fun i => dutyTok ER (recvCell (xord c i) c) 0 c) all7)
      isplitl [HtS] <;> iassumption
    isplitl [HaB]; · iexact HaB
    isplitl [HaS]; · iexact HaS
    iexact HaR
  iexact HaN

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (dealt m ρ) := by
  rw [bigSep_sep', bigSep_sep', ← bigSep_univ_prod (fun ck : Dev nD × Ck => iprop(∃ κ : ℕ, cellInv ER (rd m ρ) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (rd m ρ) κ (kcell ck) : sProp 𝕄))) $$ HI
  icases HK with ⟨%K, #HI⟩
  iapply (with_persistent (R := records m ρ K) (Φ := fun c => iprop(places c ∗ toks c)) fun c _ => dealt_intro m ρ K c)
  isplitr
  · unfold records; isplitl; · iexact HI
    iexact HR
  · rw [bigSep_sep']
    isplitl [Hat]; · iexact Hat
    iexact Htok

theorem glob : (bigSep Finset.univ fun c => iprop(ownSems0 (Ix := Unit) (Name := ℕ) (U := UU) (Lvl := ℕ) (Val := Elt F) (τ := τ) osem c ∗ unscopedSems0 c ∗ G m ρ c) : sProp 𝕄)
    ⊢ |={Set.univ}=> bigSep Finset.univ (dealt m ρ) :=
  ((bigSep_mono fun c _ => core_alloc m ρ c).trans (bigSep_fupd _ _)).trans (BI.fupd_mono (regroup m ρ))

/-! ## The credit each device starts with -/

theorem owedL_at (g : GSem nD τ sig) : ∀ l : List (GSem nD τ sig × ℕ), owedL l g () = (l.map fun e => if g = e.1 then e.2 else 0).sum
  | [] => rfl
  | e :: l => by
    unfold owedL
    rw [Pi.add_apply, Finsupp.add_apply, tallyAt_apply, owedL_at g l, List.map_cons, List.sum_cons, Nat.add_comm]
    congr 1
    by_cases h : g = e.1
    · rw [if_pos h, if_pos ⟨h, rfl⟩]
    · rw [if_neg h, if_neg fun h' => h h'.1]

theorem bar_iff (a b : Dev nD) : Iff (barCell a = barCell b) (a = b) :=
  ⟨fun h => congrArg (fun g : GSem nD τ sig => g.1.1) h, fun h => h ▸ rfl⟩
theorem recv_iff (a b i j : Dev nD) : Iff (recvCell a i = recvCell b j) (a = b ∧ i = j) :=
  ⟨fun h => ⟨congrArg (fun g : GSem nD τ sig => g.1.1) h, by
      have h' := csem_injective (show csem (some (.inr i)) = csem (some (.inr j)) from congrArg Prod.snd h)
      cases h'; rfl⟩, fun h => by rw [h.1, h.2]⟩
theorem bar_recv (a b j : Dev nD) : Iff (barCell a = recvCell b j) False := ⟨fun h => (by cases congrArg Prod.snd h), False.elim⟩
theorem recv_bar (a b j : Dev nD) : Iff (recvCell b j = barCell a) False := ⟨fun h => (by cases congrArg Prod.snd h), False.elim⟩

theorem owed_bar (d c : Dev nD) : dues d (barCell c) () = (all7.map fun o => if c = rotd d o then 1 else 0).sum := by
  unfold dues; rw [owedL_at, List.map_append, List.sum_append, List.map_map, List.map_map]
  simp only [Function.comp_def, bar_iff, bar_recv, if_false, List.map_const', List.sum_replicate, smul_zero, Nat.add_zero]
theorem owed_recv (d c j : Dev nD) : dues d (recvCell c j) () = N * (all7.map fun i => if c = xord d i ∧ j = d then 1 else 0).sum := by
  unfold dues; rw [owedL_at, List.map_append, List.sum_append, List.map_map, List.map_map, ← List.sum_map_mul_left]
  simp only [Function.comp_def, recv_iff, recv_bar, if_false, List.map_const', List.sum_replicate, smul_zero, Nat.zero_add, mul_ite, Nat.mul_one, Nat.mul_zero]

theorem count_bar (c : Dev nD) : ∑ d : Dev nD, (all7.map fun o => if c = rotd d o then 1 else 0).sum = 7 := by revert c; decide
theorem count_recv (c : Dev nD) (k : Fin 7) : ∑ d : Dev nD, (all7.map fun i => if c = xord d i ∧ xord c k = d then 1 else 0).sum = 1 := by revert c k; decide

theorem launch_bar (c : Dev nD) :
    tallyOn (barCell c) (launchCredit (Pipeline.owing dues) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]
theorem launch_recv (c : Dev nD) (k : Fin 7) :
    tallyOn (recvCell c (xord c k)) (launchCredit (Pipeline.owing dues) 0 (recvCell c (xord c k)))
      = (tallyAt (recvCell c (xord c k)) () N : CellTallies nD τ sig Unit) := by
  unfold tallyAt; refine congrArg _ (Finsupp.ext fun u => ?_); cases u
  rw [Pipeline.launchCredit_owing, Finsupp.single_eq_same, Finset.sum_congr rfl fun d _ => owed_recv d c _, ← Finset.mul_sum, count_recv, Nat.mul_one]

theorem creds_intro (c : Dev nD) : (Pipeline.launchCred dues c : sProp 𝕄) ⊢ creds c := by
  have h : (Pipeline.launchCred dues c : sProp 𝕄)
      ⊢ bigSep Finset.univ fun k : Ck => cred (tallyOn (kcell (c, k)) (launchCredit (Pipeline.owing dues) 0 (kcell (c, k)))) := by
    unfold Pipeline.launchCred
    exact (bigSep_subset (t := Finset.univ.map ⟨csem, csem_injective⟩) (Finset.subset_univ _)).trans (Entails.of_eq (bigSep_map _))
  refine h.trans ?_
  rw [over_Ck, over_recv c fun j => (cred (tallyOn (kcell (c, some (.inr j))) (launchCredit (Pipeline.owing dues) 0 (kcell (c, some (.inr j))))) : sProp 𝕄)]
  unfold creds
  iintro ⟨⟨-, -, HR⟩, HB⟩
  isplitl [HB]
  · rw [← launch_bar c]; iexact HB
  · simp only [← launch_recv c]; iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred dues c ∗ prngReg c (ρ c) ∗ dealt m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem whole_reg (c : Dev nD) (f : FVec F S1024x64 .bf16) :
    (regPts c Finset.univ f : sProp 𝕄) = (((c : Thread nD τ).loc cc0_scratch0) ↦{fullShare} f) := by
  unfold regPts; rw [rowsOf_univ]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs bufPts
  iintro ⟨Hs, -, ⟨%f, Hr⟩, Hb⟩
  isplitl [Hs]; · iexact Hs
  isplitl [Hr]
  · iexists f; rw [whole_reg]; iexact Hr
  iexact Hb

theorem phi1_exit (c : Dev nD) :
    (dats m ρ 0 c).Φ (Fin.last cfg0.N) ⊢ iprop(unscopedSems0 c ∗ ownSems0 osem c ∗ Pipeline.scopedRest cfg0.spec c) := by
  rw [show (dats m ρ 0 c).Φ (Fin.last cfg0.N) = Φ₁ c from rfl, scopedRest0_eq, ownSems0_eq, unscopedSems0_eq,
    over_recv c fun j => (semVal (recvCell c j) 0 : sProp 𝕄)]
  unfold Φ₁ closed bufs bufPts
  iintro ⟨⟨⟨HzB, HzS, HzR⟩, HzN⟩, ⟨%f, Hr⟩, Hb⟩
  isplitl [HzB]; · iexact HzB
  isplitl [HzS HzR HzN]
  · isplitl [HzS]; · iexact HzS
    isplitl [HzN] <;> iassumption
  isplitl [Hr]
  · iexists f; rw [← whole_reg]; iexact Hr
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every fair run of the eight devices ends, every semaphore at zero and every device's arrays as computed. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := dues) (howed₀ := fun _ => rfl) (howedN := fun _ => rfl)
    (L := L) (lv := lv) (hL := L_of_ne) (hwaits := waits m ρ)
    (G := G m ρ) (G' := dealt m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 2) = (s₀ m ρ).mem (win0_0.arr.view.loc (c : Thread nD τ)) :=
  (dats (F := F) m ρ 0 c).arrAt_in (0 : Fin 2) rfl _

/-- The argument is as it was and every semaphore at zero. -/
theorem quiet : θ_run defs (onTc (τ := τ) (main (F := F))) ⟨m, fun _ => 0, ρ⟩ (fun r => (∀ c : Dev nD,
    r.2.mem ((c.tc : Thread nD τ).loc main_arg0) = m ((c.tc : Thread nD τ).loc main_arg0)) ∧ r.2.sem = fun _ => 0) :=
  (θ_run defs _ _).mono (fun _ h => ⟨fun c => (h.1 c 0).trans (finalA_x m ρ c), h.2⟩) (run_main m ρ)

end Cert.KernelIdeal.Run

end
-- ==== Proof.Columns.lean ====
/- The stages over packed vectors, read column by column on extended reals: the 64 columns a packed
   vector holds, and each printed stage as one stage of a bitonic network on every column. -/
module

public import proofs.«01_k».proof.Proof.Stages
public import proofs.«01_k».proof.Proof.Contents
public import Idealize.ShloMosaic.PureOps.Ideal
public import Idealize.ShloMosaic.Lib.KernelVsHost
public import Idealize.ShloMosaic.Lib.Pipeline.Value
public import Idealize.ShloMosaic.Lib.SortNet.Sorts

@[expose] public section

noncomputable section

namespace Cert.Bitonic

open Idealize.ShloMosaic
open Idealize.ShloMosaic.SortNet (Network stage partner)

/-- The row and the lane of a packed entry, and its row in the block it is packed from. -/
def prow {n : Nat} (y : (Pk n).Idx) : Nat := (y (0 : Fin 2)).val
def lane {n : Nat} (y : (Pk n).Idx) : Nat := (y (1 : Fin 2)).val
def pos {n : Nat} (y : (Pk n).Idx) : Nat := prow y + n * (lane y / 64)

theorem prow_lt {n : Nat} (y : (Pk n).Idx) : prow y < n := (y (0 : Fin 2)).isLt
theorem lane_lt {n : Nat} (y : (Pk n).Idx) : lane y < 128 := (y (1 : Fin 2)).isLt

theorem pos_lt {n : Nat} (y : (Pk n).Idx) : pos y < 2 * n := by
  have h1 := prow_lt y
  have h2 := lane_lt y
  have h3 : lane y / 64 = 0 ∨ lane y / 64 = 1 := by omega
  unfold pos
  rcases h3 with h | h <;> rw [h] <;> omega

/-- Sixty-four columns of `2 ^ p` entries. -/
abbrev Cols (p : Nat) : Type := Nat → Fin (2 ^ p) → EReal

/-- The packed vector `x` holds the columns `v`. -/
def Holds {n : Nat} (p : Nat) (x : FVec Ideal (Pk n) .bf16) (v : Cols p) : Prop :=
  ∀ (y : (Pk n).Idx) (i : Fin (2 ^ p)), i.val = pos y → x y = v (lane y % 64) i

/-- The words `w` number the rows from `2 ^ p * B`. -/
def Numbers {n : Nat} (p B : Nat) (w : IVec (Pk n) 32) : Prop :=
  ∀ y : (Pk n).Idx, (w y).toNat = 2 ^ p * B + pos y

/-- The bits `u` are the flags `f` of the rows. -/
def Flags {n : Nat} (p : Nat) (u : IVec (Pk n) 1) (f : Fin (2 ^ p) → Bool) : Prop :=
  ∀ (y : (Pk n).Idx) (i : Fin (2 ^ p)), i.val = pos y → u y = BitVec.ofBool (f i)

theorem numbers_rowWords {n p B : Nat} (hn : 2 ^ p = 2 * n) (hs : n ≤ 512) (hB : 2 ^ p * B ≤ 1024)
    (h0 : (Pk n).Iotas .tc 32 [0]) (h1 : (Pk n).Iotas .tc 32 [1]) (m b : BitVec 32) (hm : m.toNat = n)
    (hb : b.toNat = 2 ^ p * B) : Numbers p B (rowWords n h0 h1 m b) := by
  intro y
  have hr := prow_lt y
  have hl := lane_lt y
  have e : rowWords n h0 h1 m b y
      = BitVec.ofNat 32 (prow y)
        + Scalar.select (BitVec.ofBool (BitVec.sle 64#32 (BitVec.ofNat 32 (lane y)))) m 0#32 + b := by
    show BitVec.ofNat 32 (0 * n + prow y)
        + Scalar.select (BitVec.ofBool (BitVec.sle 64#32 (BitVec.ofNat 32 (0 * 128 + lane y)))) m 0#32 + b = _
    simp only [Nat.zero_mul, Nat.zero_add]
  have ht : BitVec.sle 64#32 (BitVec.ofNat 32 (lane y)) = decide (64 ≤ lane y) := by
    rw [BitVec.sle_eq_decide]
    congr 1
    rw [BitVec.toInt_eq_toNat_of_lt (by simp), BitVec.toInt_eq_toNat_of_lt (by rw [BitVec.toNat_ofNat]; omega)]
    simp only [BitVec.toNat_ofNat, eq_iff_iff]
    rw [Nat.mod_eq_of_lt (show lane y < 2 ^ 32 by omega)]
    omega
  rw [e, ht]
  unfold pos
  by_cases h : 64 ≤ lane y
  · have hd : lane y / 64 = 1 := by omega
    rw [decide_eq_true h, hd]
    show (BitVec.ofNat 32 (prow y) + m + b).toNat = _
    rw [BitVec.toNat_add, BitVec.toNat_add, BitVec.toNat_ofNat, hm, hb]
    omega
  · have hd : lane y / 64 = 0 := by omega
    rw [decide_eq_false h, hd]
    show (BitVec.ofNat 32 (prow y) + 0#32 + b).toNat = _
    rw [BitVec.toNat_add, BitVec.toNat_add, BitVec.toNat_ofNat, hb]
    simp only [BitVec.toNat_ofNat]
    omega

/-- A bit of the row word clear, as a bit of its number clear. -/
theorem clearAt_apply {n p B : Nat} {w : IVec (Pk n) 32} (hw : Numbers p B w) (t : Nat) (j : BitVec 32)
    (hj : j.toNat = 2 ^ t) (y : (Pk n).Idx) :
    clearAt w j y = BitVec.ofBool (!(2 ^ p * B + pos y).testBit t) := by
  have e : clearAt w j y = BitVec.ofBool (w y &&& j == 0#32) := rfl
  rw [e]
  congr 1
  have h2 : (w y &&& j == 0#32) = decide ((2 ^ p * B + pos y) &&& 2 ^ t = 0) := by
    rw [beq_eq_decide]
    refine decide_eq_decide.mpr ?_
    rw [← BitVec.toNat_inj, BitVec.toNat_and, hw y, hj]
    rfl
  rw [h2]
  by_cases h : (2 ^ p * B + pos y).testBit t = false
  · rw [decide_eq_true ((SortNet.and_two_pow_eq_zero_iff_testBit _ _).mpr h), h]; rfl
  · rw [decide_eq_false (fun h' => h ((SortNet.and_two_pow_eq_zero_iff_testBit _ _).mp h')),
      Bool.eq_true_of_not_eq_false h]; rfl

theorem flags_clearAt_low {n p B : Nat} {w : IVec (Pk n) 32} (hw : Numbers p B w) (t : Nat) (ht : t < p)
    (j : BitVec 32) (hj : j.toNat = 2 ^ t) : Flags p (clearAt w j) fun i => !i.val.testBit t := by
  intro y i hi
  rw [clearAt_apply hw t j hj y, ← hi, Nat.testBit_two_pow_mul_add _ i.isLt, if_pos ht]

theorem flags_clearAt_top {n p B : Nat} {w : IVec (Pk n) 32} (hw : Numbers p B w) (j : BitVec 32)
    (hj : j.toNat = 2 ^ p) : Flags p (clearAt w j) fun _ => decide (B % 2 = 0) := by
  intro y i hi
  rw [clearAt_apply hw p j hj y, ← hi, Nat.testBit_two_pow_mul_add _ i.isLt, if_neg (Nat.lt_irrefl p), Nat.sub_self,
    Nat.testBit_zero]
  congr 1
  rcases Nat.mod_two_eq_zero_or_one B with h | h <;> rw [h] <;> rfl

theorem flags_upAt {n p : Nat} {hb : (Pk n).Broadcasts (Pk n)} {w : IVec (Pk n) 32} {k : BitVec 32}
    {f : Fin (2 ^ p) → Bool} (hf : Flags p (clearAt w k) f) (desc : Bool) :
    Flags p (upAt hb w (BitVec.ofBool !desc) k) fun i => !(f i == desc) := by
  intro y i hi
  have e : upAt hb w (BitVec.ofBool !desc) k y = (clearAt w k y ^^^ BitVec.ofBool !desc) ^^^ 1#1 := rfl
  rw [e, hf y i hi]
  show _ = BitVec.ofBool (!(f i == desc))
  cases f i <;> cases desc <;> rfl

/-! ## The exchange -/

theorem exch_ofBool {n : Nat} {lo up : IVec (Pk n) 1} {x m : FVec Ideal (Pk n) .bf16} {y : (Pk n).Idx} {a b : Bool}
    (hl : lo y = BitVec.ofBool a) (hu : up y = BitVec.ofBool b) :
    exch lo up x m y = if a = b then min (x y) (m y) else max (x y) (m y) := by
  have e : exch lo up x m y = Scalar.select ((lo y ^^^ up y) ^^^ 1#1) (min (x y) (m y)) (max (x y) (m y)) := rfl
  rw [e, hl, hu]
  cases a <;> cases b <;> rfl

theorem holds_exch {n p s : Nat} (hn : 2 ^ p = 2 * n) (hs : s < p) {lo up : IVec (Pk n) 1}
    {x m : FVec Ideal (Pk n) .bf16} {v : Cols p} {w : Fin (2 ^ p) → Bool}
    (hlo : Flags p lo fun i => !i.val.testBit s) (hup : Flags p up fun i => !w i)
    (hw : ∀ i, w (partner p s i) = w i) (hx : Holds p x v) (hm : Holds p m fun c i => v c (partner p s i)) :
    Holds p (exch lo up x m) fun c => Network.apply (stage p s w) (v c) := by
  intro y i hi
  rw [exch_ofBool (hlo y i hi) (hup y i hi), hx y i hi, hm y i hi]
  show (if (!i.val.testBit s) = !w i then min (v (lane y % 64) i) (v (lane y % 64) (partner p s i))
    else max (v (lane y % 64) i) (v (lane y % 64) (partner p s i))) = Network.apply (stage p s w) (v (lane y % 64)) i
  by_cases h : i.val &&& 2 ^ s = 0
  · have hb := (SortNet.and_two_pow_eq_zero_iff_testBit _ _).mp h
    have ha := (SortNet.apply_stage hs w (v (lane y % 64)) i h).1
    rw [ha, hb]
    cases w i <;> rfl
  · have hb : i.val.testBit s = true := by
      by_contra hc
      exact h ((SortNet.and_two_pow_eq_zero_iff_testBit _ _).mpr (Bool.eq_false_iff.mpr hc))
    have ha := (SortNet.apply_stage hs w (v (lane y % 64)) (partner p s i) (SortNet.partner_and_of_set hs i h)).2
    rw [SortNet.partner_partner hs, hw] at ha
    rw [ha, hb]
    cases w i
    · exact max_comm _ _
    · exact min_comm _ _

/-! ## The partners -/

theorem testBit_low {n q s r h : Nat} (hn : n = 2 ^ q) (hr : r < n) (hs : s < q) :
    (r + n * h).testBit s = r.testBit s := by
  subst hn
  rw [Nat.add_comm, Nat.testBit_two_pow_mul_add _ hr, if_pos hs]

theorem testBit_top {n q r h : Nat} (hn : n = 2 ^ q) (hr : r < n) : (r + n * h).testBit q = decide (h % 2 = 1) := by
  subst hn
  rw [Nat.add_comm, Nat.testBit_two_pow_mul_add _ hr, if_neg (Nat.lt_irrefl q), Nat.sub_self, Nat.testBit_zero]

theorem holds_mateRow {n q s B : Nat} (hn : n = 2 ^ q) (hs : s < q) (h : (Pk n).Rotates 0 none)
    {row : IVec (Pk n) 32} (hr : Numbers (q + 1) B row) {j back : BitVec 32} (hj : j.toNat = 2 ^ s)
    (hk : back.toNat = n - 2 ^ s) {x : FVec Ideal (Pk n) .bf16} {v : Cols (q + 1)} (hx : Holds (q + 1) x v) :
    Holds (q + 1) (mateRow h row j back x) fun c i => v c (partner (q + 1) s i) := by
  intro y i hi
  have hp := prow_lt y
  have hs2 : 2 ^ s < n := by rw [hn]; exact Nat.pow_lt_pow_right (by decide) hs
  have hpos : 0 < 2 ^ s := Nat.two_pow_pos s
  have hc := flags_clearAt_low hr s (by omega) j hj y i hi
  have e : mateRow h row j back x y
      = Scalar.select (clearAt row j y) (dynamicRotate 0 back none x h y) (dynamicRotate 0 j none x h y) := rfl
  have hbit : i.val.testBit s = (prow y).testBit s := by
    rw [hi]
    exact testBit_low hn hp hs
  let r : Fin (2 ^ q) := ⟨prow y, by omega⟩
  rw [e, hc]
  show Scalar.select (BitVec.ofBool !i.val.testBit s) _ _ = _
  cases hb : i.val.testBit s
  · have hi0 := (SortNet.and_two_pow_eq_zero_iff_testBit _ _).mpr hb
    have h1 := SortNet.partner_val_of_clear (p := q + 1) (by omega) i hi0
    have h2 := SortNet.partner_val_of_clear hs r ((SortNet.and_two_pow_eq_zero_iff_testBit _ _).mpr (by rw [← hbit, hb]))
    have h3 : prow y + 2 ^ s < n := by
      have := (partner q s r).isLt
      rw [h2] at this
      exact lt_of_lt_of_eq this hn.symm
    let k : (Pk n).Idx := fun a => match a with
      | ⟨0, _⟩ => (⟨prow y + 2 ^ s, h3⟩ : Fin n)
      | ⟨1, _⟩ => (⟨lane y, lane_lt y⟩ : Fin 128)
    show dynamicRotate 0 back none x h y = _
    rw [dynamicRotate_apply (s := Pk n) 0 back x h y k (by
      intro b
      match b with
      | ⟨0, _⟩ =>
        show prow y + 2 ^ s = (prow y + n - back.toNat % n) % n
        rw [hk, Nat.mod_eq_of_lt (show n - 2 ^ s < n by omega), show prow y + n - (n - 2 ^ s) = prow y + 2 ^ s by omega,
          Nat.mod_eq_of_lt h3]
      | ⟨1, _⟩ => rfl)]
    refine hx k _ ?_
    show (partner (q + 1) s i).val = prow y + 2 ^ s + n * (lane y / 64)
    rw [h1, hi]
    unfold pos
    omega
  · have hi0 : ¬ i.val &&& 2 ^ s = 0 := fun h' => by
      rw [(SortNet.and_two_pow_eq_zero_iff_testBit _ _).mp h'] at hb
      cases hb
    have hr0 : ¬ r.val &&& 2 ^ s = 0 := fun h' => by
      rw [hbit, (SortNet.and_two_pow_eq_zero_iff_testBit _ _).mp h'] at hb
      cases hb
    have h1 := SortNet.partner_val_of_set (p := q + 1) (by omega) i hi0
    have h2 := SortNet.partner_val_of_set hs r hr0
    have h3 : 2 ^ s ≤ prow y := h2.1
    let k : (Pk n).Idx := fun a => match a with
      | ⟨0, _⟩ => (⟨prow y - 2 ^ s, by omega⟩ : Fin n)
      | ⟨1, _⟩ => (⟨lane y, lane_lt y⟩ : Fin 128)
    show dynamicRotate 0 j none x h y = _
    rw [dynamicRotate_apply (s := Pk n) 0 j x h y k (by
      intro b
      match b with
      | ⟨0, _⟩ =>
        show prow y - 2 ^ s = (prow y + n - j.toNat % n) % n
        rw [hj, Nat.mod_eq_of_lt hs2, show prow y + n - 2 ^ s = (prow y - 2 ^ s) + n by omega, Nat.add_mod_right,
          Nat.mod_eq_of_lt (by omega)]
      | ⟨1, _⟩ => rfl)]
    refine hx k _ ?_
    show (partner (q + 1) s i).val = prow y - 2 ^ s + n * (lane y / 64)
    rw [h1.2, hi]
    unfold pos
    omega

theorem holds_mateLane {n q : Nat} (hn : n = 2 ^ q) (h : (Pk n).Rotates 1 none)
    {x : FVec Ideal (Pk n) .bf16} {v : Cols (q + 1)} (hx : Holds (q + 1) x v) :
    Holds (q + 1) (mateLane h x) fun c i => v c (partner (q + 1) q i) := by
  intro y i hi
  have hp := prow_lt y
  have hl := lane_lt y
  have hk : (lane y + 64) % 128 < 128 := by omega
  let k : (Pk n).Idx := fun a => match a with
    | ⟨0, _⟩ => (⟨prow y, hp⟩ : Fin n)
    | ⟨1, _⟩ => (⟨(lane y + 64) % 128, hk⟩ : Fin 128)
  have e : mateLane h x y = x k := by
    unfold mateLane
    refine dynamicRotate_apply (s := Pk n) 1 64#32 x h y k fun b => ?_
    match b with
    | ⟨0, _⟩ => rfl
    | ⟨1, _⟩ =>
      show (lane y + 64) % 128 = (lane y + 128 - 64 % 128) % 128
      omega
  have hbit : i.val.testBit q = decide (lane y / 64 = 1) := by
    rw [hi]
    refine (testBit_top hn hp).trans (decide_eq_decide.mpr ?_)
    omega
  have hv : (partner (q + 1) q i).val = pos k := by
    show _ = prow y + n * ((lane y + 64) % 128 / 64)
    by_cases hd : lane y / 64 = 1
    · have hi0 : ¬ i.val &&& 2 ^ q = 0 := fun h' => by
        rw [(SortNet.and_two_pow_eq_zero_iff_testBit _ _).mp h', decide_eq_true hd] at hbit
        cases hbit
      rw [(SortNet.partner_val_of_set (p := q + 1) (by omega) i hi0).2, hi, show (lane y + 64) % 128 / 64 = 0 by omega]
      unfold pos
      rw [hd, ← hn]
      omega
    · have hi0 := (SortNet.and_two_pow_eq_zero_iff_testBit i.val q).mpr (by rw [hbit, decide_eq_false hd])
      rw [SortNet.partner_val_of_clear (p := q + 1) (by omega) i hi0, hi, show (lane y + 64) % 128 / 64 = 1 by omega]
      unfold pos
      rw [show lane y / 64 = 0 by omega, ← hn]
      omega
  rw [e, hx k _ hv]
  show v ((lane y + 64) % 128 % 64) _ = _
  rw [show (lane y + 64) % 128 % 64 = lane y % 64 by omega]

/-! ## The stages -/

theorem holds_stRow {n q s B : Nat} (hn : n = 2 ^ q) (hs : s < q) {h : (Pk n).Rotates 0 none}
    {row : IVec (Pk n) 32} (hr : Numbers (q + 1) B row) {up : IVec (Pk n) 1} {j back : BitVec 32}
    (hj : j.toNat = 2 ^ s) (hk : back.toNat = n - 2 ^ s) {w : Fin (2 ^ (q + 1)) → Bool}
    (hup : Flags (q + 1) up fun i => !w i) (hw : ∀ i, w (partner (q + 1) s i) = w i)
    {x : FVec Ideal (Pk n) .bf16} {v : Cols (q + 1)} (hx : Holds (q + 1) x v) :
    Holds (q + 1) (stRow h row up j back x) fun c => Network.apply (stage (q + 1) s w) (v c) :=
  holds_exch (by rw [hn, Nat.pow_succ, Nat.mul_comm]) (by omega) (flags_clearAt_low hr s (by omega) j hj) hup hw hx
    (holds_mateRow hn hs h hr hj hk hx)

theorem holds_stLane {n q B : Nat} (hn : n = 2 ^ q) {h : (Pk n).Rotates 1 none}
    {row : IVec (Pk n) 32} (hr : Numbers (q + 1) B row) {up : IVec (Pk n) 1} {j : BitVec 32}
    (hj : j.toNat = 2 ^ q) {w : Fin (2 ^ (q + 1)) → Bool}
    (hup : Flags (q + 1) up fun i => !w i) (hw : ∀ i, w (partner (q + 1) q i) = w i)
    {x : FVec Ideal (Pk n) .bf16} {v : Cols (q + 1)} (hx : Holds (q + 1) x v) :
    Holds (q + 1) (stLane h row up j x) fun c => Network.apply (stage (q + 1) q w) (v c) :=
  holds_exch (by rw [hn, Nat.pow_succ, Nat.mul_comm]) (by omega) (flags_clearAt_low hr q (by omega) j hj) hup hw hx
    (holds_mateLane hn h hx)

/-! ## Packing and unpacking -/

/-- The columns of a block of `2 ^ p` rows. -/
def colsOf {m : Nat} [NeZero m] (p : Nat) (x : FVec Ideal (Blk m) .bf16) : Cols p :=
  fun c i => x (ix m i.val (Fin.ofNat 64 c))

theorem holds_pack {n m q : Nat} [NeZero m] (hn : n = 2 ^ q) (hm : m = 2 * n)
    {h0 : (Blk m).Slices ![0, 0] (Blk n)} {h1 : (Blk m).Slices ![n, 0] (Blk n)}
    {hc : Shape.Concatenates [Blk n, Blk n] (Pk n) 1} (x : FVec Ideal (Blk m) .bf16) :
    Holds (q + 1) (pack h0 h1 hc x) (colsOf (q + 1) x) := by
  intro y i hi
  have hp := prow_lt y
  have hl := lane_lt y
  let k : (Blk n).Idx := fun a => match a with
    | ⟨0, _⟩ => (⟨prow y, hp⟩ : Fin n)
    | ⟨1, _⟩ => (Fin.ofNat 64 (lane y % 64) : Fin 64)
  have hix : (ix m i.val (Fin.ofNat 64 (lane y % 64)) (0 : Fin 2)).val = pos y := by
    show i.val % m = _
    rw [hi]
    exact Nat.mod_eq_of_lt (by rw [hm]; exact pos_lt y)
  unfold pack colsOf
  by_cases hd : lane y < 64
  · rw [concatenate_pair_apply_left (s₁ := Blk n) (s₂ := Blk n) (t := Pk n) 1 _ _ hc y rfl k (by
      intro b
      match b with
      | ⟨0, _⟩ => rfl
      | ⟨1, _⟩ => show lane y % 64 % 64 = lane y; omega)]
    refine extractStridedSlice_apply (s := Blk m) _ _ h0 k _ fun b => ?_
    match b with
    | ⟨0, _⟩ =>
      refine hix.trans ?_
      show pos y = 0 + prow y
      unfold pos
      rw [show lane y / 64 = 0 by omega]; omega
    | ⟨1, _⟩ => show lane y % 64 % 64 = 0 + lane y % 64 % 64; omega
  · rw [concatenate_pair_apply_right (s₁ := Blk n) (s₂ := Blk n) (t := Pk n) 1 _ _ hc y rfl rfl k (by
      intro b hb
      match b with
      | ⟨0, _⟩ => rfl
      | ⟨1, _⟩ => exact absurd rfl hb) (by show lane y % 64 % 64 + 64 = lane y; omega)]
    refine extractStridedSlice_apply (s := Blk m) _ _ h1 k _ fun b => ?_
    match b with
    | ⟨0, _⟩ =>
      refine hix.trans ?_
      show pos y = n + prow y
      unfold pos
      rw [show lane y / 64 = 1 by omega]; omega
    | ⟨1, _⟩ => show lane y % 64 % 64 = 0 + lane y % 64 % 64; omega

theorem colsOf_unpack {n m q : Nat} [NeZero m] (hn : n = 2 ^ q) (hm : m = 2 * n)
    {h0 : (Pk n).Slices ![0, 0] (Blk n)} {h1 : (Pk n).Slices ![0, 64] (Blk n)}
    {hc : Shape.Concatenates [Blk n, Blk n] (Blk m) 0} {x : FVec Ideal (Pk n) .bf16} {v : Cols (q + 1)}
    (hx : Holds (q + 1) x v) (c : Fin 64) : colsOf (q + 1) (unpack h0 h1 hc x) c.val = v c.val := by
  funext i
  have hi : i.val < m := by have h1 := i.isLt; have h2 := Nat.pow_succ 2 q; omega
  have hcv : c.val < 64 := c.isLt
  have hr : i.val % n < n := Nat.mod_lt _ (by have := Nat.two_pow_pos q; omega)
  unfold colsOf unpack
  let j := ix m i.val (Fin.ofNat 64 c.val)
  have hj : (j (0 : Fin 2)).val = i.val := Nat.mod_eq_of_lt hi
  let k : (Blk n).Idx := fun a => match a with
    | ⟨0, _⟩ => (⟨i.val % n, hr⟩ : Fin n)
    | ⟨1, _⟩ => (c : Fin 64)
  by_cases hd : i.val < n
  · let y : (Pk n).Idx := fun a => match a with
      | ⟨0, _⟩ => (⟨i.val % n, hr⟩ : Fin n)
      | ⟨1, _⟩ => (⟨c.val, by omega⟩ : Fin 128)
    rw [concatenate_pair_apply_left (s₁ := Blk n) (s₂ := Blk n) (t := Blk m) 0 _ _ hc _ rfl k (by
      intro b
      match b with
      | ⟨0, _⟩ => exact (Nat.mod_eq_of_lt hd).trans hj.symm
      | ⟨1, _⟩ => show c.val = c.val % 64; omega)]
    rw [extractStridedSlice_apply (s := Pk n) _ _ h0 k y (by
      intro b
      match b with
      | ⟨0, _⟩ => show i.val % n = 0 + i.val % n; omega
      | ⟨1, _⟩ => show c.val = 0 + c.val; omega)]
    rw [hx y i (by
      show i.val = i.val % n + n * (c.val / 64)
      rw [Nat.mod_eq_of_lt hd, show c.val / 64 = 0 by omega]; omega)]
    show v (c.val % 64) i = _
    rw [Nat.mod_eq_of_lt hcv]
  · have hmod : i.val % n = i.val - n := by
      rw [Nat.mod_eq_sub_mod (by omega), Nat.mod_eq_of_lt (by omega)]
    let y : (Pk n).Idx := fun a => match a with
      | ⟨0, _⟩ => (⟨i.val % n, hr⟩ : Fin n)
      | ⟨1, _⟩ => (⟨64 + c.val, by omega⟩ : Fin 128)
    rw [concatenate_pair_apply_right (s₁ := Blk n) (s₂ := Blk n) (t := Blk m) 0 _ _ hc _ rfl rfl k (by
      intro b hb
      match b with
      | ⟨0, _⟩ => exact absurd rfl hb
      | ⟨1, _⟩ => show c.val = c.val % 64; omega) (by
        show i.val % n + n = i.val % m
        rw [hmod, Nat.mod_eq_of_lt hi]; omega)]
    rw [extractStridedSlice_apply (s := Pk n) _ _ h1 k y (by
      intro b
      match b with
      | ⟨0, _⟩ => show i.val % n = 0 + i.val % n; omega
      | ⟨1, _⟩ => rfl)]
    rw [hx y i (by
      show i.val = i.val % n + n * ((64 + c.val) / 64)
      rw [hmod, show (64 + c.val) / 64 = 1 by omega]; omega)]
    show v ((64 + c.val) % 64) i = _
    rw [show (64 + c.val) % 64 = c.val by omega]

end Cert.Bitonic

end
-- ==== Proof.Networks.lean ====
/- The local sort and the three merges, column by column: the local sort is the bitonic sort of 128
   entries, each merge the bitonic merge of 256, 512 and 1024, up or down by the place of the block. -/
module

public import proofs.«01_k».proof.Proof.Columns

@[expose] public section

noncomputable section

namespace Cert.Bitonic

open Idealize.ShloMosaic
open Idealize.ShloMosaic.SortNet (Network stage partner sortNet mergeAscNet mergeDescNet)

/-! ## The directions of the local sort -/

/-- Where the greater entry goes first while runs of `2 ^ (l + 1)` rows are made. -/
def dirs (desc : Bool) (l : Nat) : Fin (2 ^ 7) → Bool := fun i => decide (i.val &&& 2 ^ (l + 1) = 0) == desc

theorem clear_eq (x t : Nat) : decide (x &&& 2 ^ t = 0) = !x.testBit t := by
  cases h : x.testBit t
  · exact decide_eq_true ((SortNet.and_two_pow_eq_zero_iff_testBit x t).mpr h)
  · refine decide_eq_false fun h' => ?_
    rw [(SortNet.and_two_pow_eq_zero_iff_testBit x t).mp h'] at h
    cases h

theorem dirs_partner (desc : Bool) {l s : Nat} (hs : s ≤ l) (hl : l < 7) (i : Fin (2 ^ 7)) :
    dirs desc l (partner 7 s i) = dirs desc l i := by
  unfold dirs
  rw [clear_eq, clear_eq, SortNet.partner_val (by omega), Nat.testBit_xor, Nat.testBit_two_pow,
    decide_eq_false (by omega), Bool.xor_false]

theorem numbers_rows64 : Numbers 7 0 rows64 :=
  numbers_rowWords (by decide) (by decide) (by decide) _ _ _ _ rfl rfl

theorem flags_ups (desc : Bool) {l : Nat} (hl : l < 7) (k : BitVec 32) (hk : k.toNat = 2 ^ (l + 1)) :
    Flags 7 (ups (BitVec.ofBool !desc) k) fun i => !dirs desc l i := by
  have h : Flags 7 (clearAt rows64 k) fun i => decide (i.val &&& 2 ^ (l + 1) = 0) := by
    by_cases h6 : l = 6
    · subst h6
      have h := flags_clearAt_top numbers_rows64 k hk
      intro y i hi
      rw [h y i hi]
      show _ = BitVec.ofBool (decide (i.val &&& 2 ^ 7 = 0))
      rw [clear_eq, Nat.testBit_lt_two_pow i.isLt]
      rfl
    · have h := flags_clearAt_low numbers_rows64 (l + 1) (by omega) k hk
      intro y i hi
      rw [h y i hi]
      show _ = BitVec.ofBool (decide (i.val &&& 2 ^ (l + 1) = 0))
      rw [clear_eq]
  exact flags_upAt h desc

/-! ## The local sort -/

/-- The stages of a list of pairs: the run length made, and the distance, each as a power of two. -/
def localNet (desc : Bool) (L : List (Nat × Nat)) : Network (2 ^ 7) := L.flatMap fun e => stage 7 e.2 (dirs desc e.1)

theorem holds_localNet {desc : Bool} {L : List (Nat × Nat)} {l s : Nat} {x : FVec Ideal (Pk 64) .bf16} {u : Cols 7}
    (h : Holds 7 x fun c => Network.apply (stage 7 s (dirs desc l)) (Network.apply (localNet desc L) (u c))) :
    Holds 7 x fun c => Network.apply (localNet desc (L ++ [(l, s)])) (u c) := by
  unfold localNet
  simp only [List.flatMap_append, List.flatMap_cons, List.flatMap_nil, List.append_nil, SortNet.Network.apply_append]
  exact h

theorem holds_local (desc : Bool) {w : BitVec 32} (hw : evenBit w = BitVec.ofBool !desc) (x : FVec Ideal (Blk 128) .bf16) :
    Holds 7 (loc_28 w x) fun c => Network.apply (sortNet 7 desc) (colsOf 7 x c) := by
  have h0 : Holds 7 (loc_0 x) fun c => Network.apply (localNet desc []) (colsOf 7 x c) := by
    unfold loc_0
    rw [shapeCast_self]
    exact holds_pack (q := 6) rfl rfl x
  have h1 : Holds 7 (loc_1 w x) fun c => Network.apply (localNet desc
      [(0, 0)]) (colsOf 7 x c) := by
    unfold loc_1
    rw [hw]
    exact holds_localNet (L := [])
      (holds_stRow (q := 6) (s := 0) rfl (by decide) numbers_rows64 rfl rfl (flags_ups desc (l := 0) (by decide) _ rfl) (dirs_partner desc (by decide) (by decide)) h0)
  have h2 : Holds 7 (loc_2 w x) fun c => Network.apply (localNet desc
      [(0, 0), (1, 1)]) (colsOf 7 x c) := by
    unfold loc_2
    rw [hw]
    exact holds_localNet (L := [(0, 0)])
      (holds_stRow (q := 6) (s := 1) rfl (by decide) numbers_rows64 rfl rfl (flags_ups desc (l := 1) (by decide) _ rfl) (dirs_partner desc (by decide) (by decide)) h1)
  have h3 : Holds 7 (loc_3 w x) fun c => Network.apply (localNet desc
      [(0, 0), (1, 1), (1, 0)]) (colsOf 7 x c) := by
    unfold loc_3
    rw [hw]
    exact holds_localNet (L := [(0, 0), (1, 1)])
      (holds_stRow (q := 6) (s := 0) rfl (by decide) numbers_rows64 rfl rfl (flags_ups desc (l := 1) (by decide) _ rfl) (dirs_partner desc (by decide) (by decide)) h2)
  have h4 : Holds 7 (loc_4 w x) fun c => Network.apply (localNet desc
      [(0, 0), (1, 1), (1, 0), (2, 2)]) (colsOf 7 x c) := by
    unfold loc_4
    rw [hw]
    exact holds_localNet (L := [(0, 0), (1, 1), (1, 0)])
      (holds_stRow (q := 6) (s := 2) rfl (by decide) numbers_rows64 rfl rfl (flags_ups desc (l := 2) (by decide) _ rfl) (dirs_partner desc (by decide) (by decide)) h3)
  have h5 : Holds 7 (loc_5 w x) fun c => Network.apply (localNet desc
      [(0, 0), (1, 1), (1, 0), (2, 2), (2, 1)]) (colsOf 7 x c) := by
    unfold loc_5
    rw [hw]
    exact holds_localNet (L := [(0, 0), (1, 1), (1, 0), (2, 2)])
      (holds_stRow (q := 6) (s := 1) rfl (by decide) numbers_rows64 rfl rfl (flags_ups desc (l := 2) (by decide) _ rfl) (dirs_partner desc (by decide) (by decide)) h4)
  have h6 : Holds 7 (loc_6 w x) fun c => Network.apply (localNet desc
      [(0, 0), (1, 1), (1, 0), (2, 2), (2, 1), (2, 0)]) (colsOf 7 x c) := by
    unfold loc_6
    rw [hw]
    exact holds_localNet (L := [(0, 0), (1, 1), (1, 0), (2, 2), (2, 1)])
      (holds_stRow (q := 6) (s := 0) rfl (by decide) numbers_rows64 rfl rfl (flags_ups desc (l := 2) (by decide) _ rfl) (dirs_partner desc (by decide) (by decide)) h5)
  have h7 : Holds 7 (loc_7 w x) fun c => Network.apply (localNet desc
      [(0, 0), (1, 1), (1, 0), (2, 2), (2, 1), (2, 0), (3, 3)]) (colsOf 7 x c) := by
    unfold loc_7
    rw [hw]
    exact holds_localNet (L := [(0, 0), (1, 1), (1, 0), (2, 2), (2, 1), (2, 0)])
      (holds_stRow (q := 6) (s := 3) rfl (by decide) numbers_rows64 rfl rfl (flags_ups desc (l := 3) (by decide) _ rfl) (dirs_partner desc (by decide) (by decide)) h6)
  have h8 : Holds 7 (loc_8 w x) fun c => Network.apply (localNet desc
      [(0, 0), (1, 1), (1, 0), (2, 2), (2, 1), (2, 0), (3, 3), (3, 2)]) (colsOf 7 x c) := by
    unfold loc_8
    rw [hw]
    exact holds_localNet (L := [(0, 0), (1, 1), (1, 0), (2, 2), (2, 1), (2, 0), (3, 3)])
      (holds_stRow (q := 6) (s := 2) rfl (by decide) numbers_rows64 rfl rfl (flags_ups desc (l := 3) (by decide) _ rfl) (dirs_partner desc (by decide) (by decide)) h7)
  have h9 : Holds 7 (loc_9 w x) fun c => Network.apply (localNet desc
      [(0, 0), (1, 1), (1, 0), (2, 2), (2, 1), (2, 0), (3, 3), (3, 2), (3, 1)]) (colsOf 7 x c) := by
    unfold loc_9
    rw [hw]
    exact holds_localNet (L := [(0, 0), (1, 1), (1, 0), (2, 2), (2, 1), (2, 0), (3, 3), (3, 2)])
      (holds_stRow (q := 6) (s := 1) rfl (by decide) numbers_rows64 rfl rfl (flags_ups desc (l := 3) (by decide) _ rfl) (dirs_partner desc (by decide) (by decide)) h8)
  have h10 : Holds 7 (loc_10 w x) fun c => Network.apply (localNet desc
      [(0, 0), (1, 1), (1, 0), (2, 2), (2, 1), (2, 0), (3, 3), (3, 2), (3, 1), (3, 0)]) (colsOf 7 x c) := by
    unfold loc_10
    rw [hw]
    exact holds_localNet (L := [(0, 0), (1, 1), (1, 0), (2, 2), (2, 1), (2, 0), (3, 3), (3, 2), (3, 1)])
      (holds_stRow (q := 6) (s := 0) rfl (by decide) numbers_rows64 rfl rfl (flags_ups desc (l := 3) (by decide) _ rfl) (dirs_partner desc (by decide) (by decide)) h9)
  have h11 : Holds 7 (loc_11 w x) fun c => Network.apply (localNet desc
      [(0, 0), (1, 1), (1, 0), (2, 2), (2, 1), (2, 0), (3, 3), (3, 2), (3, 1), (3, 0), (4, 4)]) (colsOf 7 x c) := by
    unfold loc_11
    rw [hw]
    exact holds_localNet (L := [(0, 0), (1, 1), (1, 0), (2, 2), (2, 1), (2, 0), (3, 3), (3, 2), (3, 1), (3, 0)])
      (holds_stRow (q := 6) (s := 4) rfl (by decide) numbers_rows64 rfl rfl (flags_ups desc (l := 4) (by decide) _ rfl) (dirs_partner desc (by decide) (by decide)) h10)
  have h12 : Holds 7 (loc_12 w x) fun c => Network.apply (localNet desc
      [(0, 0), (1, 1), (1, 0), (2, 2), (2, 1), (2, 0), (3, 3), (3, 2), (3, 1), (3, 0), (4, 4), (4, 3)]) (colsOf 7 x c) := by
    unfold loc_12
    rw [hw]
    exact holds_localNet (L := [(0, 0), (1, 1), (1, 0), (2, 2), (2, 1), (2, 0), (3, 3), (3, 2), (3, 1), (3, 0), (4, 4)])
      (holds_stRow (q := 6) (s := 3) rfl (by decide) numbers_rows64 rfl rfl (flags_ups desc (l := 4) (by decide) _ rfl) (dirs_partner desc (by decide) (by decide)) h11)
  have h13 : Holds 7 (loc_13 w x) fun c => Network.apply (localNet desc
      [(0, 0), (1, 1), (1, 0), (2, 2), (2, 1), (2, 0), (3, 3), (3, 2), (3, 1), (3, 0), (4, 4), (4, 3), (4, 2)]) (colsOf 7 x c) := by
    unfold loc_13
    rw [hw]
    exact holds_localNet (L := [(0, 0), (1, 1), (1, 0), (2, 2), (2, 1), (2, 0), (3, 3), (3, 2), (3, 1), (3, 0), (4, 4), (4, 3)])
      (holds_stRow (q := 6) (s := 2) rfl (by decide) numbers_rows64 rfl rfl (flags_ups desc (l := 4) (by decide) _ rfl) (dirs_partner desc (by decide) (by decide)) h12)
  have h14 : Holds 7 (loc_14 w x) fun c => Network.apply (localNet desc
      [(0, 0), (1, 1), (1, 0), (2, 2), (2, 1), (2, 0), (3, 3), (3, 2), (3, 1), (3, 0), (4, 4), (4, 3), (4, 2), (4, 1)]) (colsOf 7 x c) := by
    unfold loc_14
    rw [hw]
    exact holds_localNet (L := [(0, 0), (1, 1), (1, 0), (2, 2), (2, 1), (2, 0), (3, 3), (3, 2), (3, 1), (3, 0), (4, 4), (4, 3), (4, 2)])
      (holds_stRow (q := 6) (s := 1) rfl (by decide) numbers_rows64 rfl rfl (flags_ups desc (l := 4) (by decide) _ rfl) (dirs_partner desc (by decide) (by decide)) h13)
  have h15 : Holds 7 (loc_15 w x) fun c => Network.apply (localNet desc
      [(0, 0), (1, 1), (1, 0), (2, 2), (2, 1), (2, 0), (3, 3), (3, 2), (3, 1), (3, 0), (4, 4), (4, 3), (4, 2), (4, 1), (4, 0)]) (colsOf 7 x c) := by
    unfold loc_15
    rw [hw]
    exact holds_localNet (L := [(0, 0), (1, 1), (1, 0), (2, 2), (2, 1), (2, 0), (3, 3), (3, 2), (3, 1), (3, 0), (4, 4), (4, 3), (4, 2), (4, 1)])
      (holds_stRow (q := 6) (s := 0) rfl (by decide) numbers_rows64 rfl rfl (flags_ups desc (l := 4) (by decide) _ rfl) (dirs_partner desc (by decide) (by decide)) h14)
  have h16 : Holds 7 (loc_16 w x) fun c => Network.apply (localNet desc
      [(0, 0), (1, 1), (1, 0), (2, 2), (2, 1), (2, 0), (3, 3), (3, 2), (3, 1), (3, 0), (4, 4), (4, 3), (4, 2), (4, 1), (4, 0), (5, 5)]) (colsOf 7 x c) := by
    unfold loc_16
    rw [hw]
    exact holds_localNet (L := [(0, 0), (1, 1), (1, 0), (2, 2), (2, 1), (2, 0), (3, 3), (3, 2), (3, 1), (3, 0), (4, 4), (4, 3), (4, 2), (4, 1), (4, 0)])
      (holds_stRow (q := 6) (s := 5) rfl (by decide) numbers_rows64 rfl rfl (flags_ups desc (l := 5) (by decide) _ rfl) (dirs_partner desc (by decide) (by decide)) h15)
  have h17 : Holds 7 (loc_17 w x) fun c => Network.apply (localNet desc
      [(0, 0), (1, 1), (1, 0), (2, 2), (2, 1), (2, 0), (3, 3), (3, 2), (3, 1), (3, 0), (4, 4), (4, 3), (4, 2), (4, 1), (4, 0), (5, 5), (5, 4)]) (colsOf 7 x c) := by
    unfold loc_17
    rw [hw]
    exact holds_localNet (L := [(0, 0), (1, 1), (1, 0), (2, 2), (2, 1), (2, 0), (3, 3), (3, 2), (3, 1), (3, 0), (4, 4), (4, 3), (4, 2), (4, 1), (4, 0), (5, 5)])
      (holds_stRow (q := 6) (s := 4) rfl (by decide) numbers_rows64 rfl rfl (flags_ups desc (l := 5) (by decide) _ rfl) (dirs_partner desc (by decide) (by decide)) h16)
  have h18 : Holds 7 (loc_18 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3)]) (colsOf 7 x c) := by
    unfold loc_18
    rw [hw]
    exact holds_localNet (L := [(0, 0), (1, 1), (1, 0), (2, 2), (2, 1), (2, 0), (3, 3), (3, 2), (3, 1), (3, 0), (4, 4), (4, 3), (4, 2), (4, 1), (4, 0), (5, 5), (5, 4)])
      (holds_stRow (q := 6) (s := 3) rfl (by decide) numbers_rows64 rfl rfl (flags_ups desc (l := 5) (by decide) _ rfl) (dirs_partner desc (by decide) (by decide)) h17)
  have h19 : Holds 7 (loc_19 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3), (5, 2)]) (colsOf 7 x c) := by
    unfold loc_19
    rw [hw]
    exact holds_localNet (L := [(0, 0), (1, 1), (1, 0), (2, 2), (2, 1), (2, 0), (3, 3), (3, 2), (3, 1), (3, 0), (4, 4), (4, 3), (4, 2), (4, 1), (4, 0), (5, 5), (5, 4), (5, 3)])
      (holds_stRow (q := 6) (s := 2) rfl (by decide) numbers_rows64 rfl rfl (flags_ups desc (l := 5) (by decide) _ rfl) (dirs_partner desc (by decide) (by decide)) h18)
  have h20 : Holds 7 (loc_20 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3), (5, 2), (5, 1)]) (colsOf 7 x c) := by
    unfold loc_20
    rw [hw]
    exact holds_localNet (L := [(0, 0), (1, 1), (1, 0), (2, 2), (2, 1), (2, 0), (3, 3), (3, 2), (3, 1), (3, 0), (4, 4), (4, 3), (4, 2), (4, 1), (4, 0), (5, 5), (5, 4), (5, 3), (5, 2)])
      (holds_stRow (q := 6) (s := 1) rfl (by decide) numbers_rows64 rfl rfl (flags_ups desc (l := 5) (by decide) _ rfl) (dirs_partner desc (by decide) (by decide)) h19)
  have h21 : Holds 7 (loc_21 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0)]) (colsOf 7 x c) := by
    unfold loc_21
    rw [hw]
    exact holds_localNet (L := [(0, 0), (1, 1), (1, 0), (2, 2), (2, 1), (2, 0), (3, 3), (3, 2), (3, 1), (3, 0), (4, 4), (4, 3), (4, 2), (4, 1), (4, 0), (5, 5), (5, 4), (5, 3), (5, 2), (5, 1)])
      (holds_stRow (q := 6) (s := 0) rfl (by decide) numbers_rows64 rfl rfl (flags_ups desc (l := 5) (by decide) _ rfl) (dirs_partner desc (by decide) (by decide)) h20)
  have h22 : Holds 7 (loc_22 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6)]) (colsOf 7 x c) := by
    unfold loc_22
    rw [hw]
    exact holds_localNet (L := [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0)])
      (holds_stLane (q := 6) rfl numbers_rows64 rfl (flags_ups desc (l := 6) (by decide) _ rfl) (dirs_partner desc (by decide) (by decide)) h21)
  have h23 : Holds 7 (loc_23 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5)]) (colsOf 7 x c) := by
    unfold loc_23
    rw [hw]
    exact holds_localNet (L := [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6)])
      (holds_stRow (q := 6) (s := 5) rfl (by decide) numbers_rows64 rfl rfl (flags_ups desc (l := 6) (by decide) _ rfl) (dirs_partner desc (by decide) (by decide)) h22)
  have h24 : Holds 7 (loc_24 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5), (6, 4)]) (colsOf 7 x c) := by
    unfold loc_24
    rw [hw]
    exact holds_localNet (L := [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5)])
      (holds_stRow (q := 6) (s := 4) rfl (by decide) numbers_rows64 rfl rfl (flags_ups desc (l := 6) (by decide) _ rfl) (dirs_partner desc (by decide) (by decide)) h23)
  have h25 : Holds 7 (loc_25 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5), (6, 4), (6, 3)]) (colsOf 7 x c) := by
    unfold loc_25
    rw [hw]
    exact holds_localNet (L := [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5), (6, 4)])
      (holds_stRow (q := 6) (s := 3) rfl (by decide) numbers_rows64 rfl rfl (flags_ups desc (l := 6) (by decide) _ rfl) (dirs_partner desc (by decide) (by decide)) h24)
  have h26 : Holds 7 (loc_26 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5), (6, 4), (6, 3), (6, 2)]) (colsOf 7 x c) := by
    unfold loc_26
    rw [hw]
    exact holds_localNet (L := [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5), (6, 4), (6, 3)])
      (holds_stRow (q := 6) (s := 2) rfl (by decide) numbers_rows64 rfl rfl (flags_ups desc (l := 6) (by decide) _ rfl) (dirs_partner desc (by decide) (by decide)) h25)
  have h27 : Holds 7 (loc_27 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5), (6, 4), (6, 3), (6, 2), (6, 1)]) (colsOf 7 x c) := by
    unfold loc_27
    rw [hw]
    exact holds_localNet (L := [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5), (6, 4), (6, 3), (6, 2)])
      (holds_stRow (q := 6) (s := 1) rfl (by decide) numbers_rows64 rfl rfl (flags_ups desc (l := 6) (by decide) _ rfl) (dirs_partner desc (by decide) (by decide)) h26)
  have h28 : Holds 7 (loc_28 w x) fun c => Network.apply (localNet desc
      [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5), (6, 4), (6, 3), (6, 2), (6, 1), (6, 0)]) (colsOf 7 x c) := by
    unfold loc_28
    rw [hw]
    exact holds_localNet (L := [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5), (6, 4), (6, 3), (6, 2), (6, 1)])
      (holds_stRow (q := 6) (s := 0) rfl (by decide) numbers_rows64 rfl rfl (flags_ups desc (l := 6) (by decide) _ rfl) (dirs_partner desc (by decide) (by decide)) h27)
  have e : sortNet 7 desc = localNet desc
      [(0, 0), (1, 1), (1, 0), (2, 2), (2, 1), (2, 0), (3, 3), (3, 2), (3, 1), (3, 0), (4, 4), (4, 3), (4, 2), (4, 1), (4, 0), (5, 5), (5, 4), (5, 3), (5, 2), (5, 1), (5, 0), (6, 6), (6, 5), (6, 4), (6, 3), (6, 2), (6, 1), (6, 0)] := by
    have e0 : sortNet 7 desc = (List.range 7).flatMap fun l =>
      (List.range (l + 1)).reverse.flatMap fun s => stage 7 s (dirs desc l) := rfl
    rw [e0]
    unfold localNet
    rw [show List.range 7 = [0, 1, 2, 3, 4, 5, 6] from rfl]
    simp only [List.flatMap_cons, List.flatMap_nil, List.append_nil]
    simp only [Nat.zero_add, Nat.reduceAdd, show (List.range 1).reverse = [0] from rfl, show (List.range 2).reverse = [1, 0] from rfl,
      show (List.range 3).reverse = [2, 1, 0] from rfl, show (List.range 4).reverse = [3, 2, 1, 0] from rfl,
      show (List.range 5).reverse = [4, 3, 2, 1, 0] from rfl, show (List.range 6).reverse = [5, 4, 3, 2, 1, 0] from rfl,
      show (List.range 7).reverse = [6, 5, 4, 3, 2, 1, 0] from rfl, List.flatMap_cons, List.flatMap_nil, List.append_nil,
      List.append_assoc]
  rw [e]
  exact h28

theorem colsOf_locOut (desc : Bool) {w : BitVec 32} (hw : evenBit w = BitVec.ofBool !desc) (x : FVec Ideal (Blk 128) .bf16)
    (c : Fin 64) : colsOf 7 (locOut w x) c.val = Network.apply (sortNet 7 desc) (colsOf 7 x c.val) :=
  colsOf_unpack (q := 6) rfl rfl (holds_local desc hw x) c

/-! ## The merges -/

/-- The merging stages of a list of distances, each as a power of two: upwards where `up`. -/
def distNet (p : Nat) (up : Bool) (L : List Nat) : Network (2 ^ p) := L.flatMap fun s => stage p s fun _ => !up

/-- The merge of `2 ^ p` rows. -/
def mergeNet (p : Nat) (up : Bool) : Network (2 ^ p) := distNet p up (List.range p).reverse

theorem holds_distNet {n p : Nat} {up : Bool} {L : List Nat} {s : Nat} {x : FVec Ideal (Pk n) .bf16} {u : Cols p}
    (h : Holds p x fun c => Network.apply (stage p s fun _ => !up) (Network.apply (distNet p up L) (u c))) :
    Holds p x fun c => Network.apply (distNet p up (L ++ [s])) (u c) := by
  unfold distNet
  simp only [List.flatMap_append, List.flatMap_cons, List.flatMap_nil, List.append_nil, SortNet.Network.apply_append]
  exact h

theorem flags_merge {n p B : Nat} {w : IVec (Pk n) 32} (hw : Numbers p B w) (j : BitVec 32) (hj : j.toNat = 2 ^ p) :
    Flags p (clearAt w j) fun _ => !!decide (B % 2 = 0) := by
  simp only [Bool.not_not]
  exact flags_clearAt_top hw j hj

theorem numbers_rows128 {B : Nat} (hB : 256 * B ≤ 1024) : Numbers 8 B (rows128 (BitVec.ofNat 32 (256 * B))) :=
  numbers_rowWords (by decide) (by decide) (by omega) _ _ _ _ rfl
    (by rw [BitVec.toNat_ofNat, Nat.mod_eq_of_lt (by omega)]; omega)

theorem colsOf_mg256 {B : Nat} (hB : 256 * B ≤ 1024) (x : FVec Ideal (Blk 256) .bf16) (c : Fin 64) :
    colsOf 8 (mg256Out (BitVec.ofNat 32 (256 * B)) x) c.val = Network.apply (mergeNet 8 (decide (B % 2 = 0))) (colsOf 8 x c.val) := by
  have hn := (numbers_rows128 hB)
  have hf := flags_merge hn 256#32 rfl
  have h0 : Holds 8 (mg256_0 x) fun c => Network.apply (distNet 8 (decide (B % 2 = 0)) []) (colsOf 8 x c) :=
    holds_pack (q := 7) rfl rfl x
  have h1 : Holds 8 (mg256_1 (BitVec.ofNat 32 (256 * B)) x) fun c => Network.apply (distNet 8 (decide (B % 2 = 0)) [7]) (colsOf 8 x c) :=
    holds_distNet (L := []) (holds_stLane (q := 7) rfl hn rfl hf (fun _ => rfl) h0)
  have h2 : Holds 8 (mg256_2 (BitVec.ofNat 32 (256 * B)) x) fun c => Network.apply (distNet 8 (decide (B % 2 = 0)) [7, 6]) (colsOf 8 x c) :=
    holds_distNet (L := [7]) (holds_stRow (q := 7) (s := 6) rfl (by decide) hn rfl rfl hf (fun _ => rfl) h1)
  have h3 : Holds 8 (mg256_3 (BitVec.ofNat 32 (256 * B)) x) fun c => Network.apply (distNet 8 (decide (B % 2 = 0)) [7, 6, 5]) (colsOf 8 x c) :=
    holds_distNet (L := [7, 6]) (holds_stRow (q := 7) (s := 5) rfl (by decide) hn rfl rfl hf (fun _ => rfl) h2)
  have h4 : Holds 8 (mg256_4 (BitVec.ofNat 32 (256 * B)) x) fun c => Network.apply (distNet 8 (decide (B % 2 = 0)) [7, 6, 5, 4]) (colsOf 8 x c) :=
    holds_distNet (L := [7, 6, 5]) (holds_stRow (q := 7) (s := 4) rfl (by decide) hn rfl rfl hf (fun _ => rfl) h3)
  have h5 : Holds 8 (mg256_5 (BitVec.ofNat 32 (256 * B)) x) fun c => Network.apply (distNet 8 (decide (B % 2 = 0)) [7, 6, 5, 4, 3]) (colsOf 8 x c) :=
    holds_distNet (L := [7, 6, 5, 4]) (holds_stRow (q := 7) (s := 3) rfl (by decide) hn rfl rfl hf (fun _ => rfl) h4)
  have h6 : Holds 8 (mg256_6 (BitVec.ofNat 32 (256 * B)) x) fun c => Network.apply (distNet 8 (decide (B % 2 = 0)) [7, 6, 5, 4, 3, 2]) (colsOf 8 x c) :=
    holds_distNet (L := [7, 6, 5, 4, 3]) (holds_stRow (q := 7) (s := 2) rfl (by decide) hn rfl rfl hf (fun _ => rfl) h5)
  have h7 : Holds 8 (mg256_7 (BitVec.ofNat 32 (256 * B)) x) fun c => Network.apply (distNet 8 (decide (B % 2 = 0)) [7, 6, 5, 4, 3, 2, 1]) (colsOf 8 x c) :=
    holds_distNet (L := [7, 6, 5, 4, 3, 2]) (holds_stRow (q := 7) (s := 1) rfl (by decide) hn rfl rfl hf (fun _ => rfl) h6)
  have h8 : Holds 8 (mg256_8 (BitVec.ofNat 32 (256 * B)) x) fun c => Network.apply (distNet 8 (decide (B % 2 = 0)) [7, 6, 5, 4, 3, 2, 1, 0]) (colsOf 8 x c) :=
    holds_distNet (L := [7, 6, 5, 4, 3, 2, 1]) (holds_stRow (q := 7) (s := 0) rfl (by decide) hn rfl rfl hf (fun _ => rfl) h7)
  have h : Holds 8 (mg256_8 (BitVec.ofNat 32 (256 * B)) x) fun c => Network.apply (mergeNet 8 (decide (B % 2 = 0))) (colsOf 8 x c) := by
    unfold mergeNet
    rw [show (List.range 8).reverse = [7, 6, 5, 4, 3, 2, 1, 0] from rfl]
    exact h8
  exact colsOf_unpack (q := 7) rfl rfl h c

theorem numbers_rows256 {B : Nat} (hB : 512 * B ≤ 1024) : Numbers 9 B (rows256 (BitVec.ofNat 32 (512 * B))) :=
  numbers_rowWords (by decide) (by decide) (by omega) _ _ _ _ rfl
    (by rw [BitVec.toNat_ofNat, Nat.mod_eq_of_lt (by omega)]; omega)

theorem colsOf_mg512 {B : Nat} (hB : 512 * B ≤ 1024) (x : FVec Ideal (Blk 512) .bf16) (c : Fin 64) :
    colsOf 9 (mg512Out (BitVec.ofNat 32 (512 * B)) x) c.val = Network.apply (mergeNet 9 (decide (B % 2 = 0))) (colsOf 9 x c.val) := by
  have hn := (numbers_rows256 hB)
  have hf := flags_merge hn 512#32 rfl
  have h0 : Holds 9 (mg512_0 x) fun c => Network.apply (distNet 9 (decide (B % 2 = 0)) []) (colsOf 9 x c) :=
    holds_pack (q := 8) rfl rfl x
  have h1 : Holds 9 (mg512_1 (BitVec.ofNat 32 (512 * B)) x) fun c => Network.apply (distNet 9 (decide (B % 2 = 0)) [8]) (colsOf 9 x c) :=
    holds_distNet (L := []) (holds_stLane (q := 8) rfl hn rfl hf (fun _ => rfl) h0)
  have h2 : Holds 9 (mg512_2 (BitVec.ofNat 32 (512 * B)) x) fun c => Network.apply (distNet 9 (decide (B % 2 = 0)) [8, 7]) (colsOf 9 x c) :=
    holds_distNet (L := [8]) (holds_stRow (q := 8) (s := 7) rfl (by decide) hn rfl rfl hf (fun _ => rfl) h1)
  have h3 : Holds 9 (mg512_3 (BitVec.ofNat 32 (512 * B)) x) fun c => Network.apply (distNet 9 (decide (B % 2 = 0)) [8, 7, 6]) (colsOf 9 x c) :=
    holds_distNet (L := [8, 7]) (holds_stRow (q := 8) (s := 6) rfl (by decide) hn rfl rfl hf (fun _ => rfl) h2)
  have h4 : Holds 9 (mg512_4 (BitVec.ofNat 32 (512 * B)) x) fun c => Network.apply (distNet 9 (decide (B % 2 = 0)) [8, 7, 6, 5]) (colsOf 9 x c) :=
    holds_distNet (L := [8, 7, 6]) (holds_stRow (q := 8) (s := 5) rfl (by decide) hn rfl rfl hf (fun _ => rfl) h3)
  have h5 : Holds 9 (mg512_5 (BitVec.ofNat 32 (512 * B)) x) fun c => Network.apply (distNet 9 (decide (B % 2 = 0)) [8, 7, 6, 5, 4]) (colsOf 9 x c) :=
    holds_distNet (L := [8, 7, 6, 5]) (holds_stRow (q := 8) (s := 4) rfl (by decide) hn rfl rfl hf (fun _ => rfl) h4)
  have h6 : Holds 9 (mg512_6 (BitVec.ofNat 32 (512 * B)) x) fun c => Network.apply (distNet 9 (decide (B % 2 = 0)) [8, 7, 6, 5, 4, 3]) (colsOf 9 x c) :=
    holds_distNet (L := [8, 7, 6, 5, 4]) (holds_stRow (q := 8) (s := 3) rfl (by decide) hn rfl rfl hf (fun _ => rfl) h5)
  have h7 : Holds 9 (mg512_7 (BitVec.ofNat 32 (512 * B)) x) fun c => Network.apply (distNet 9 (decide (B % 2 = 0)) [8, 7, 6, 5, 4, 3, 2]) (colsOf 9 x c) :=
    holds_distNet (L := [8, 7, 6, 5, 4, 3]) (holds_stRow (q := 8) (s := 2) rfl (by decide) hn rfl rfl hf (fun _ => rfl) h6)
  have h8 : Holds 9 (mg512_8 (BitVec.ofNat 32 (512 * B)) x) fun c => Network.apply (distNet 9 (decide (B % 2 = 0)) [8, 7, 6, 5, 4, 3, 2, 1]) (colsOf 9 x c) :=
    holds_distNet (L := [8, 7, 6, 5, 4, 3, 2]) (holds_stRow (q := 8) (s := 1) rfl (by decide) hn rfl rfl hf (fun _ => rfl) h7)
  have h9 : Holds 9 (mg512_9 (BitVec.ofNat 32 (512 * B)) x) fun c => Network.apply (distNet 9 (decide (B % 2 = 0)) [8, 7, 6, 5, 4, 3, 2, 1, 0]) (colsOf 9 x c) :=
    holds_distNet (L := [8, 7, 6, 5, 4, 3, 2, 1]) (holds_stRow (q := 8) (s := 0) rfl (by decide) hn rfl rfl hf (fun _ => rfl) h8)
  have h : Holds 9 (mg512_9 (BitVec.ofNat 32 (512 * B)) x) fun c => Network.apply (mergeNet 9 (decide (B % 2 = 0))) (colsOf 9 x c) := by
    unfold mergeNet
    rw [show (List.range 9).reverse = [8, 7, 6, 5, 4, 3, 2, 1, 0] from rfl]
    exact h9
  exact colsOf_unpack (q := 8) rfl rfl h c

theorem numbers_rows512 : Numbers 10 0 rows512 :=
  numbers_rowWords (by decide) (by decide) (by decide) _ _ _ _ rfl rfl

theorem colsOf_mg1024 (x : FVec Ideal (Blk 1024) .bf16) (c : Fin 64) :
    colsOf 10 (mg1024Out x) c.val = Network.apply (mergeNet 10 (decide (0 % 2 = 0))) (colsOf 10 x c.val) := by
  have hn := numbers_rows512
  have hf := flags_merge hn 1024#32 rfl
  have h0 : Holds 10 (mg1024_0 x) fun c => Network.apply (distNet 10 (decide (0 % 2 = 0)) []) (colsOf 10 x c) :=
    holds_pack (q := 9) rfl rfl x
  have h1 : Holds 10 (mg1024_1 x) fun c => Network.apply (distNet 10 (decide (0 % 2 = 0)) [9]) (colsOf 10 x c) :=
    holds_distNet (L := []) (holds_stLane (q := 9) rfl hn rfl hf (fun _ => rfl) h0)
  have h2 : Holds 10 (mg1024_2 x) fun c => Network.apply (distNet 10 (decide (0 % 2 = 0)) [9, 8]) (colsOf 10 x c) :=
    holds_distNet (L := [9]) (holds_stRow (q := 9) (s := 8) rfl (by decide) hn rfl rfl hf (fun _ => rfl) h1)
  have h3 : Holds 10 (mg1024_3 x) fun c => Network.apply (distNet 10 (decide (0 % 2 = 0)) [9, 8, 7]) (colsOf 10 x c) :=
    holds_distNet (L := [9, 8]) (holds_stRow (q := 9) (s := 7) rfl (by decide) hn rfl rfl hf (fun _ => rfl) h2)
  have h4 : Holds 10 (mg1024_4 x) fun c => Network.apply (distNet 10 (decide (0 % 2 = 0)) [9, 8, 7, 6]) (colsOf 10 x c) :=
    holds_distNet (L := [9, 8, 7]) (holds_stRow (q := 9) (s := 6) rfl (by decide) hn rfl rfl hf (fun _ => rfl) h3)
  have h5 : Holds 10 (mg1024_5 x) fun c => Network.apply (distNet 10 (decide (0 % 2 = 0)) [9, 8, 7, 6, 5]) (colsOf 10 x c) :=
    holds_distNet (L := [9, 8, 7, 6]) (holds_stRow (q := 9) (s := 5) rfl (by decide) hn rfl rfl hf (fun _ => rfl) h4)
  have h6 : Holds 10 (mg1024_6 x) fun c => Network.apply (distNet 10 (decide (0 % 2 = 0)) [9, 8, 7, 6, 5, 4]) (colsOf 10 x c) :=
    holds_distNet (L := [9, 8, 7, 6, 5]) (holds_stRow (q := 9) (s := 4) rfl (by decide) hn rfl rfl hf (fun _ => rfl) h5)
  have h7 : Holds 10 (mg1024_7 x) fun c => Network.apply (distNet 10 (decide (0 % 2 = 0)) [9, 8, 7, 6, 5, 4, 3]) (colsOf 10 x c) :=
    holds_distNet (L := [9, 8, 7, 6, 5, 4]) (holds_stRow (q := 9) (s := 3) rfl (by decide) hn rfl rfl hf (fun _ => rfl) h6)
  have h8 : Holds 10 (mg1024_8 x) fun c => Network.apply (distNet 10 (decide (0 % 2 = 0)) [9, 8, 7, 6, 5, 4, 3, 2]) (colsOf 10 x c) :=
    holds_distNet (L := [9, 8, 7, 6, 5, 4, 3]) (holds_stRow (q := 9) (s := 2) rfl (by decide) hn rfl rfl hf (fun _ => rfl) h7)
  have h9 : Holds 10 (mg1024_9 x) fun c => Network.apply (distNet 10 (decide (0 % 2 = 0)) [9, 8, 7, 6, 5, 4, 3, 2, 1]) (colsOf 10 x c) :=
    holds_distNet (L := [9, 8, 7, 6, 5, 4, 3, 2]) (holds_stRow (q := 9) (s := 1) rfl (by decide) hn rfl rfl hf (fun _ => rfl) h8)
  have h10 : Holds 10 (mg1024_10 x) fun c => Network.apply (distNet 10 (decide (0 % 2 = 0)) [9, 8, 7, 6, 5, 4, 3, 2, 1, 0]) (colsOf 10 x c) :=
    holds_distNet (L := [9, 8, 7, 6, 5, 4, 3, 2, 1]) (holds_stRow (q := 9) (s := 0) rfl (by decide) hn rfl rfl hf (fun _ => rfl) h9)
  have h : Holds 10 (mg1024_10 x) fun c => Network.apply (mergeNet 10 (decide (0 % 2 = 0))) (colsOf 10 x c) := by
    unfold mergeNet
    rw [show (List.range 10).reverse = [9, 8, 7, 6, 5, 4, 3, 2, 1, 0] from rfl]
    exact h10
  exact colsOf_unpack (q := 9) rfl rfl h c

end Cert.Bitonic

end
-- ==== Proof.SortedValue.lean ====
/- All rows in order: after the local sorts and the three merges every column of the gathered rows
   ascends and is a rearrangement of the column the devices began with; so is every column of the sorted
   array, and the two are equal. -/
module

public import proofs.«01_k».proof.Proof.Networks
public import Idealize.ShloMosaic.Lib.SortFacts
public import Idealize.ShloMosaic.Lib.SortNet.HostSort

@[expose] public section

noncomputable section

namespace Cert.Bitonic

open Idealize.ShloMosaic
open Idealize.ShloMosaic.SortNet (Network stage partner sortNet mergeAscNet mergeDescNet DescAsc)

/-! ## Rearrangements -/

/-- A rearrangement within each block is a rearrangement. -/
theorem rearranged_of_blocks {α : Type} {nb h : Nat} (f g : Fin (nb * h) → α)
    (H : ∀ p : Fin nb, ∃ σ : Equiv.Perm (Fin h), ∀ r, g (finProdFinEquiv (p, r)) = f (finProdFinEquiv (p, σ r))) :
    ∃ σ : Equiv.Perm (Fin (nb * h)), g = f ∘ σ := by
  choose σ hσ using H
  refine ⟨(finProdFinEquiv.symm.trans (Equiv.prodCongrRight σ)).trans finProdFinEquiv, funext fun i => ?_⟩
  obtain ⟨⟨p, r⟩, rfl⟩ := finProdFinEquiv.surjective i
  rw [hσ p r]
  simp only [Function.comp_apply, Equiv.trans_apply, Equiv.symm_apply_apply, Equiv.prodCongrRight_apply]

/-- Two rearrangements of one column that both ascend are equal. -/
theorem eq_of_monotone {n : Nat} {f : Fin n → EReal} {σ τ : Equiv.Perm (Fin n)} (hσ : Monotone (f ∘ σ))
    (hτ : Monotone (f ∘ τ)) : f ∘ σ = f ∘ τ := by
  refine List.ofFn_injective (List.Perm.eq_of_pairwise (le := fun a b : EReal => a ≤ b) (fun a b _ _ h h' => le_antisymm h h') ?_ ?_
    ((Equiv.Perm.ofFn_comp_perm σ f).trans (Equiv.Perm.ofFn_comp_perm τ f).symm))
  · exact List.pairwise_ofFn.mpr fun i j hij => hσ (le_of_lt hij)
  · exact List.pairwise_ofFn.mpr fun i j hij => hτ (le_of_lt hij)

/-- Column `c` of all rows. -/
def column {α : Type} (g : (Blk 1024).Idx → α) (c : Fin 64) : Fin 1024 → α := fun i => g (ix 1024 i.val c)

/-- The columns of `g'` are columns of `g` rearranged. -/
def Rearranged (g g' : FVec Ideal (Blk 1024) .bf16) : Prop :=
  ∀ c, ∃ σ : Equiv.Perm (Fin 1024), column g' c = column g c ∘ σ

theorem Rearranged.trans {g g' g'' : FVec Ideal (Blk 1024) .bf16} (h : Rearranged g g') (h' : Rearranged g' g'') :
    Rearranged g g'' := fun c => by
  obtain ⟨σ, hσ⟩ := h c
  obtain ⟨τ, hτ⟩ := h' c
  exact ⟨τ.trans σ, by rw [hτ, hσ]; rfl⟩

/-- An entry of a block, as an entry of the column. -/
theorem colsOf_gather {q h : Nat} [NeZero h] (hq : h = 2 ^ q) (p : Nat) (g : FVec Ideal (Blk 1024) .bf16) (c : Fin 64)
    (i : Fin (2 ^ q)) : colsOf q (gather h p g) c.val i = g (ix 1024 (h * p + i.val) c) := by
  have hi : i.val % h = i.val := Nat.mod_eq_of_lt (lt_of_lt_of_eq i.isLt hq.symm)
  have hc : (Fin.ofNat 64 c.val : Fin 64) = c := Fin.ext (Nat.mod_eq_of_lt c.isLt)
  unfold colsOf gather
  rw [row_ix, col_ix, hi, hc]

/-- What a network does to every column of every block is a rearrangement of the columns. -/
theorem rearranged_of_nets {nb q : Nat} [NeZero (2 ^ q)] (e : nb * 2 ^ q = 1024) (g g' : FVec Ideal (Blk 1024) .bf16)
    (N : Nat → Network (2 ^ q))
    (H : ∀ p, p < nb → ∀ c : Fin 64,
      colsOf q (gather (2 ^ q) p g') c.val = Network.apply (N p) (colsOf q (gather (2 ^ q) p g) c.val)) :
    Rearranged g g' := by
  intro c
  have h := rearranged_of_blocks (nb := nb) (h := 2 ^ q) (fun i => column g c (i.cast e)) (fun i => column g' c (i.cast e))
    fun p => by
      obtain ⟨σ, hσ⟩ := Network.exists_perm (N p.val) (colsOf q (gather (2 ^ q) p.val g) c.val)
      refine ⟨σ, fun r => ?_⟩
      have h1 := congrFun ((H p.val p.isLt c).trans hσ) r
      rw [Function.comp_apply, colsOf_gather rfl, colsOf_gather rfl] at h1
      show g' (ix 1024 (r.val + 2 ^ q * p.val) c) = g (ix 1024 ((σ r).val + 2 ^ q * p.val) c)
      rw [Nat.add_comm, h1, Nat.add_comm]
  obtain ⟨σ, hσ⟩ := h
  refine ⟨((finCongr e.symm).trans σ).trans (finCongr e), funext fun i => ?_⟩
  exact congrFun hσ (i.cast e.symm)

/-! ## Order -/

/-- The column `k` ascends, or descends, on the rows from `a` to before `b`. -/
def Up (k : Nat → EReal) (a b : Nat) : Prop := ∀ i j, a ≤ i → i ≤ j → j < b → k i ≤ k j
def Dn (k : Nat → EReal) (a b : Nat) : Prop := ∀ i j, a ≤ i → i ≤ j → j < b → k j ≤ k i

/-- The entries of column `c` by the number of the row. -/
def entries (g : FVec Ideal (Blk 1024) .bf16) (c : Fin 64) : Nat → EReal := fun r => g (ix 1024 r c)

/-- Block after block of `h` rows, upwards and downwards by turns. -/
def Turns (h nb : Nat) (g : FVec Ideal (Blk 1024) .bf16) : Prop :=
  ∀ p, p < nb → ∀ c, (p % 2 = 0 → Up (entries g c) (h * p) (h * p + h)) ∧ (p % 2 = 1 → Dn (entries g c) (h * p) (h * p + h))

theorem up_of_monotone {q h : Nat} [NeZero h] (hq : h = 2 ^ q) {p : Nat} {g : FVec Ideal (Blk 1024) .bf16} {c : Fin 64}
    (hm : Monotone (colsOf q (gather h p g) c.val)) : Up (entries g c) (h * p) (h * p + h) := by
  intro i j hi hij hj
  have h1 := hm (a := ⟨i - h * p, by omega⟩) (b := ⟨j - h * p, by omega⟩) (by show i - h * p ≤ j - h * p; omega)
  rw [colsOf_gather hq, colsOf_gather hq] at h1
  simp only [show h * p + (i - h * p) = i by omega, show h * p + (j - h * p) = j by omega] at h1
  exact h1

theorem dn_of_antitone {q h : Nat} [NeZero h] (hq : h = 2 ^ q) {p : Nat} {g : FVec Ideal (Blk 1024) .bf16} {c : Fin 64}
    (hm : Antitone (colsOf q (gather h p g) c.val)) : Dn (entries g c) (h * p) (h * p + h) := by
  intro i j hi hij hj
  have h1 := hm (a := ⟨i - h * p, by omega⟩) (b := ⟨j - h * p, by omega⟩) (by show i - h * p ≤ j - h * p; omega)
  rw [colsOf_gather hq, colsOf_gather hq] at h1
  simp only [show h * p + (i - h * p) = i by omega, show h * p + (j - h * p) = j by omega] at h1
  exact h1

/-- Two blocks by turns are one block that ascends and then descends. -/
theorem descAsc_of_turns {q h h2 : Nat} [NeZero h] (hq : h = 2 ^ (q + 1)) (h2q : h2 = 2 ^ q) {nb : Nat} {g : FVec Ideal (Blk 1024) .bf16}
    (ht : Turns h2 (2 * nb) g) {p : Nat} (hp : p < nb) (c : Fin 64) : DescAsc (colsOf (q + 1) (gather h p g) c.val) := by
  have hh : h = 2 * h2 := by rw [hq, h2q, Nat.pow_succ, Nat.mul_comm]
  have hu := (ht (2 * p) (by omega) c).1 (by omega)
  have hd := (ht (2 * p + 1) (by omega) c).2 (by omega)
  have e1 : h2 * (2 * p) = h * p := by rw [hh, ← Nat.mul_assoc, Nat.mul_comm h2 2]
  have e2 : h2 * (2 * p + 1) = h * p + h2 := by rw [Nat.mul_add, Nat.mul_one, e1]
  rw [e1] at hu
  rw [e2] at hd
  refine ⟨h2, Or.inr ⟨fun i j hij hj => ?_, fun i j hij hi => ?_⟩⟩
  · rw [colsOf_gather hq, colsOf_gather hq]
    have : i.val ≤ j.val := hij
    exact hu _ _ (by omega) (by omega) (by omega)
  · rw [colsOf_gather hq, colsOf_gather hq]
    have : i.val ≤ j.val := hij
    have := j.isLt
    exact hd _ _ (by omega) (by omega) (by omega)

theorem monotone_mergeNet {p : Nat} {up : Bool} (hu : up = true) {v : Fin (2 ^ p) → EReal} (hv : DescAsc v) :
    Monotone (Network.apply (mergeNet p up) v) := by
  subst hu
  exact SortNet.mergeAscNet_apply_monotone p v hv

theorem antitone_mergeNet {p : Nat} {up : Bool} (hu : up = false) {v : Fin (2 ^ p) → EReal} (hv : DescAsc v) :
    Antitone (Network.apply (mergeNet p up) v) := by
  subst hu
  exact SortNet.mergeDescNet_apply_antitone p v hv

/-! ## The levels -/

theorem evenBit_devw : ∀ d : Fin 8, evenBit (devw (BitVec.ofNat 32 d.val)) = BitVec.ofBool !decide (d.val % 2 = 1) := by
  decide

theorem cols_lvl0 (X : Fin 8 → FVec Ideal (Blk 128) .bf16) (d : Nat) (hd : d < 8) (c : Fin 64) :
    colsOf 7 (gather 128 d (lvl0 (sorted0 X))) c.val
      = Network.apply (sortNet 7 (decide (d % 2 = 1))) (colsOf 7 (gather 128 d (lvl0 X)) c.val) := by
  have h1 := gather_lvl0 (sorted0 X) ⟨d, hd⟩
  have h2 := gather_lvl0 X ⟨d, hd⟩
  rw [show gather 128 d (lvl0 (sorted0 X)) = _ from h1, show gather 128 d (lvl0 X) = _ from h2]
  exact colsOf_locOut _ (evenBit_devw ⟨d, hd⟩) (X ⟨d, hd⟩) c

theorem cols_lvl1 (g : FVec Ideal (Blk 1024) .bf16) (p : Nat) (hp : p < 4) (c : Fin 64) :
    colsOf 8 (gather 256 p (lvl1 g)) c.val
      = Network.apply (mergeNet 8 (decide (p % 2 = 0))) (colsOf 8 (gather 256 p g) c.val) := by
  rw [gather_lvl1 g p hp]
  exact colsOf_mg256 (by omega) _ c

theorem cols_lvl2 (g : FVec Ideal (Blk 1024) .bf16) (p : Nat) (hp : p < 2) (c : Fin 64) :
    colsOf 9 (gather 512 p (lvl2 g)) c.val
      = Network.apply (mergeNet 9 (decide (p % 2 = 0))) (colsOf 9 (gather 512 p g) c.val) := by
  rw [gather_lvl2 g p hp]
  exact colsOf_mg512 (by omega) _ c

theorem cols_all (g : FVec Ideal (Blk 1024) .bf16) (c : Fin 64) :
    colsOf 10 (gather 1024 0 (mg1024Out g)) c.val
      = Network.apply (mergeNet 10 (decide (0 % 2 = 0))) (colsOf 10 (gather 1024 0 g) c.val) := by
  rw [gather_all, gather_all]
  exact colsOf_mg1024 g c

theorem turns_lvl0 (X : Fin 8 → FVec Ideal (Blk 128) .bf16) : Turns 128 8 (lvl0 (sorted0 X)) := by
  intro d hd c
  have e := cols_lvl0 X d hd c
  constructor
  · intro h
    refine up_of_monotone (q := 7) (h := 128) rfl ?_
    rw [e, decide_eq_false (by omega)]
    exact SortNet.sortNet_apply_monotone 7 _
  · intro h
    refine dn_of_antitone (q := 7) (h := 128) rfl ?_
    rw [e, decide_eq_true h]
    exact SortNet.sortNet_apply_antitone 7 _

/-- A level of merges makes blocks by turns of blocks half as long by turns. -/
theorem turns_merge {q h h2 nb : Nat} [NeZero h] (hq : h = 2 ^ (q + 1)) (h2q : h2 = 2 ^ q) {g g' : FVec Ideal (Blk 1024) .bf16}
    (H : ∀ p, p < nb → ∀ c : Fin 64, colsOf (q + 1) (gather h p g') c.val
      = Network.apply (mergeNet (q + 1) (decide (p % 2 = 0))) (colsOf (q + 1) (gather h p g) c.val))
    (ht : Turns h2 (2 * nb) g) : Turns h nb g' := by
  intro p hp c
  have hd := descAsc_of_turns hq h2q ht hp c
  constructor
  · intro h
    refine up_of_monotone hq ?_
    rw [H p hp c]
    exact monotone_mergeNet (decide_eq_true h) hd
  · intro h
    refine dn_of_antitone hq ?_
    rw [H p hp c]
    exact antitone_mergeNet (decide_eq_false (by omega)) hd

theorem turns_all (X : Fin 8 → FVec Ideal (Blk 128) .bf16) : Turns 1024 1 (allSorted X) := by
  have h1 := turns_merge (q := 7) (nb := 4) (h := 256) rfl rfl (cols_lvl1 (lvl0 (sorted0 X))) (turns_lvl0 X)
  have h2 := turns_merge (q := 8) (nb := 2) (h := 512) rfl rfl (cols_lvl2 (lvl1 (lvl0 (sorted0 X)))) h1
  refine turns_merge (q := 9) (nb := 1) (h := 1024) rfl rfl (fun p hp c => ?_) h2
  obtain rfl : p = 0 := by omega
  exact cols_all _ c

theorem monotone_allSorted (X : Fin 8 → FVec Ideal (Blk 128) .bf16) (c : Fin 64) : Monotone (column (allSorted X) c) := by
  intro i j hij
  exact (turns_all X 0 (by decide) c).1 rfl i.val j.val (Nat.zero_le _) hij (by have := j.isLt; omega)

theorem rearranged_allSorted (X : Fin 8 → FVec Ideal (Blk 128) .bf16) : Rearranged (lvl0 X) (allSorted X) := by
  have h0 : Rearranged (lvl0 X) (lvl0 (sorted0 X)) :=
    rearranged_of_nets (nb := 8) (q := 7) rfl _ _ _ (cols_lvl0 X)
  have h1 : Rearranged (lvl0 (sorted0 X)) (lvl1 (lvl0 (sorted0 X))) :=
    rearranged_of_nets (nb := 4) (q := 8) rfl _ _ _ (cols_lvl1 _)
  have h2 : Rearranged (lvl1 (lvl0 (sorted0 X))) (lvl2 (lvl1 (lvl0 (sorted0 X)))) :=
    rearranged_of_nets (nb := 2) (q := 9) rfl _ _ _ (cols_lvl2 _)
  have h3 : Rearranged (lvl2 (lvl1 (lvl0 (sorted0 X)))) (allSorted X) :=
    rearranged_of_nets (nb := 1) (q := 10) rfl _ _ (fun p => mergeNet 10 (decide (p % 2 = 0))) fun p hp c => by
      obtain rfl : p = 0 := by omega
      exact cols_all _ c
  exact ((h0.trans h1).trans h2).trans h3

/-! ## The sorted array -/

/-- A comparison by the linear order sorts by it: no later place holds a lesser entry. -/
theorem sortedFrom_monotone {n : Nat} (cmp : EReal → EReal → BitVec 1) (hcmp : ∀ a b, cmp a b = BitVec.ofBool (decide (a < b)))
    (k : Fin n → EReal) : Monotone (k ∘ sortedFrom fun a b => cmp (k a) (k b) == 1#1) := by
  have hb : ∀ a b : EReal, (cmp a b == 1#1) = decide (a < b) := by
    intro a b
    rw [hcmp]
    cases decide (a < b) <;> rfl
  refine monotone_iff_forall_lt.mpr fun i j hij => ?_
  have h := sortedFrom_noInversion (fun a b : Fin n => cmp (k a) (k b) == 1#1) (fun a b => cmp (k a) (k b) == 1#1)
    (by
      intro a b hab
      rw [hb] at hab ⊢
      exact decide_eq_false (lt_asymm (of_decide_eq_true hab)))
    (fun _ _ h => h)
    (by
      intro a b d hab hbd
      rw [hb] at hab hbd ⊢
      exact decide_eq_false (not_lt.mpr (le_trans (not_lt.mp (of_decide_eq_false hbd)) (not_lt.mp (of_decide_eq_false hab)))))
    i j hij
  rw [hb] at h
  exact not_lt.mp (of_decide_eq_false h)

/-- A column of a sorted array is the sorted column. -/
theorem sort_column {n : Nat} [NeZero n] (cmp : EReal → EReal → BitVec 1) (x : (Blk n).Idx → EReal) (c : Fin 64) (i : Fin n) :
    Host.sort (Blk n) 0 cmp x (ix n i.val c)
      = ((fun i : Fin n => x (ix n i.val c)) ∘ sortedFrom fun a b : Fin n => cmp (x (ix n a.val c)) (x (ix n b.val c)) == 1#1) i := by
  have hd : 0 < (Blk n).rank := Nat.zero_lt_succ 1
  have ha : ∀ a : Fin n, (ix n i.val c).along (⟨0, hd⟩ : Fin (Blk n).rank) a = ix n a.val c := by
    intro a
    funext b
    match b with
    | ⟨0, _⟩ => exact Fin.ext (Nat.mod_eq_of_lt a.isLt).symm
    | ⟨1, _⟩ => rfl
  have hi : (ix n i.val c (⟨0, hd⟩ : Fin (Blk n).rank) : Fin n) = i := Fin.ext (Nat.mod_eq_of_lt i.isLt)
  have hs : (fun a b : Fin n => cmp (x ((ix n i.val c).along (⟨0, hd⟩ : Fin (Blk n).rank) a))
        (x ((ix n i.val c).along (⟨0, hd⟩ : Fin (Blk n).rank) b)) == 1#1)
      = fun a b => cmp (x (ix n a.val c)) (x (ix n b.val c)) == 1#1 := by
    funext a b
    exact congrArg₂ (fun u v => cmp (x u) (x v) == 1#1) (ha a) (ha b)
  unfold Host.sort
  rw [dif_pos hd]
  refine (congrArg x (ha _)).trans ?_
  exact congrArg₂ (fun (S : Fin n → Fin n → Bool) (j : Fin n) => x (ix n (sortedFrom S j).val c)) hs hi

theorem column_sort {n : Nat} [NeZero n] (cmp : EReal → EReal → BitVec 1) (hcmp : ∀ a b, cmp a b = BitVec.ofBool (decide (a < b)))
    (x : (Blk n).Idx → EReal) (c : Fin 64) :
    ∃ σ : Equiv.Perm (Fin n), Monotone ((fun i : Fin n => x (ix n i.val c)) ∘ σ)
      ∧ ∀ i : Fin n, Host.sort (Blk n) 0 cmp x (ix n i.val c) = ((fun i : Fin n => x (ix n i.val c)) ∘ σ) i := by
  refine ⟨Equiv.ofBijective (sortedFrom fun a b : Fin n => cmp (x (ix n a.val c)) (x (ix n b.val c)) == 1#1)
    ⟨sortedFrom_injective _, sortedFrom_surjective _⟩, ?_, fun i => ?_⟩
  · exact sortedFrom_monotone cmp hcmp fun i : Fin n => x (ix n i.val c)
  · exact sort_column cmp x c i

/-- The merged rows are the sorted rows. -/
theorem allSorted_eq_sort (cmp : EReal → EReal → BitVec 1) (hcmp : ∀ a b, cmp a b = BitVec.ofBool (decide (a < b)))
    (X : Fin 8 → FVec Ideal (Blk 128) .bf16) (y : (Blk 1024).Idx) :
    (allSorted X y : EReal) = Host.sort (Blk 1024) 0 cmp (lvl0 X) y := by
  obtain ⟨σ, hσ⟩ := rearranged_allSorted X (col y)
  obtain ⟨τ, hm, hτ⟩ := column_sort cmp hcmp (lvl0 X) (col y)
  have hm' := monotone_allSorted X (col y)
  rw [hσ] at hm'
  have h := congrFun (eq_of_monotone hm' hm) ⟨row y, row_lt y⟩
  have h1 := congrFun hσ ⟨row y, row_lt y⟩
  have h2 := hτ ⟨row y, row_lt y⟩
  have h3 := (h1.trans h).trans h2.symm
  unfold column at h3
  rw [ix_self] at h3
  exact h3

end Cert.Bitonic

end
-- ==== Proof.Result.lean ====
/- What the run leaves in the result arrays, and that it is each device's block of the sorted array. -/
module

public import proofs.«01_k».proof.Defs
public import proofs.«01_k».proof.Proof.KernelIdealLaunch
public import proofs.«01_k».proof.Proof.SortedValue
public import proofs.«01_k».proof.Proof.Gen.ReferenceIdeal
public import Idealize.ShloMosaic.Lib.Layout

@[expose] public section

noncomputable section

/-! ## The result arrays -/

namespace Cert.KernelIdeal.Run

open Cert.KernelIdeal Cert.KernelIdeal.Gen Cert.Bitonic Idealize.ShloMosaic Idealize.ShloMosaic.TcCoe Idealize.SL.Sem

variable {F : FTy → Type} [FloatOps F] (m : (ℓ : Loc nD τ sig) → Buf (Elt F) ℓ) (ρ : Dev nD → PrngReg)

/-- The rows of each device at the start. -/
def rowsAt (d : Dev nD) : FVec F (Blk 128) .bf16 := m ((d.tc : Thread nD τ).loc main_arg0)

/-- The rows as staged are the whole argument array. -/
theorem xstg_eq (d : Dev nD) : xstg m ρ d = rowsAt m d := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- A device's result array is written once, whole, with what its body leaves staged. -/
theorem finalA_out (c : Dev nD) : finalA m ρ c (1 : Fin 2) = outBlock (rowsAt m) c := by
  have hz : (fun a => (win0_1.index (0 : Fin 1)) a * main_v1.ty.shape.size a) = fun _ => 0 :=
    funext fun a => by fin_cases a <;> decide
  have hr : (win0_1.blk (0 : Fin 1)).view.read (Elt F) (finalA m ρ c (1 : Fin 2)) = finalA m ρ c (1 : Fin 2) :=
    Memref.read_access_unit_zero (Elt F) main_v1 hz (fun a => by fin_cases a <;> decide) _
  rw [← hr]
  have hx : xstg m ρ = rowsAt m := funext (xstg_eq m ρ)
  unfold finalA
  rw [show cfg0.N = ((0 : Fin 1) : Fin cfg0.N).val + 1 from rfl, (dats m ρ 0 c).arrAt_succ (1 : Fin 2) (0 : Fin 1),
    if_pos (show (cfg0.win (1 : Fin 2)).flush (0 : Fin 1) = true by decide), ← hx]
  exact View.read_write_univ _ _

/-- Every run leaves each device's block of the merged rows in its result array, and the argument as it was. -/
theorem value : θ_run defs (onTc (τ := τ) (main (F := F))) ⟨m, fun _ => 0, ρ⟩ (fun r => ∀ c : Dev nD,
    r.2.mem ((c.tc : Thread nD τ).loc main_v1) = outBlock (rowsAt m) c
      ∧ r.2.mem ((c.tc : Thread nD τ).loc main_arg0) = m ((c.tc : Thread nD τ).loc main_arg0)) :=
  (θ_run defs _ _).mono (fun _ h c => ⟨(h.1 c 1).trans (finalA_out m ρ c), (h.1 c 0).trans (finalA_x m ρ c)⟩) (run_main m ρ)

end Cert.KernelIdeal.Run

/-! ## The blocks of the sorted array -/

namespace Cert.Bitonic

open Idealize.ShloMosaic

/-- Row `row y` of block `c` in the whole array. -/
theorem block_idx (h : Layout.Tiles (Blk 128) (Blk 1024) 0 8) (c : Fin 8) (y : (Blk 128).Idx) :
    h.idx c y = ix 1024 (128 * c.val + row y) (col y) := by
  have hy := row_lt y
  have hc := c.isLt
  have e := Layout.idx_rows_val h c y
  refine (ix_ext 1024 ?_ ?_).symm
  · refine Eq.trans ?_ e.1.symm
    show (128 * c.val + row y) % 1024 = c.val * 128 + row y
    omega
  · exact Fin.ext e.2.symm

/-- The blocks of an array one after the other are the array. -/
theorem lvl0_block {α : Type} (h : Layout.Tiles (Blk 128) (Blk 1024) 0 8) (w : (Blk 1024).Idx → α) :
    lvl0 (fun d => Layout.block (Blk 128) (Blk 1024) 0 8 d w h) = w := by
  funext x
  have hx := row_lt x
  show w (h.idx _ _) = w x
  rw [block_idx]
  refine congrArg w (ix_ext 1024 ?_ rfl)
  rw [row_ix]
  show (128 * (row x / 128 % 8) + row x % 128) % 1024 = row x
  omega

/-- The reference's comparison of two numbers is the linear order's: no number differs from itself, and a zero stands for itself. -/
theorem comparator_eq (a b : EReal) :
    Cert.ReferenceIdeal.comparator_f32_d0 (F := Ideal) a b = BitVec.ofBool (decide (a < b)) := by
  have hz : ∀ l z : EReal, Scalar.select (BitVec.ofBool (decide (l = z))) z l = l := by
    intro l z
    by_cases h : l = z
    · rw [decide_eq_true h]; exact h.symm
    · rw [decide_eq_false h]; rfl
  have hn : ∀ l u w : EReal, Scalar.select (BitVec.ofBool (decide (l ≠ l))) u w = w := by
    intro l u w
    rw [decide_eq_false (fun h => h rfl)]; rfl
  show BitVec.ofBool (decide (Scalar.select (BitVec.ofBool (decide (a ≠ a))) _ (Scalar.select (BitVec.ofBool (decide (a = _))) _ a)
    < Scalar.select (BitVec.ofBool (decide (b ≠ b))) _ (Scalar.select (BitVec.ofBool (decide (b = _))) _ b))) = _
  rw [hn, hn, hz, hz]

/-- Each device's result is its block of the sorted array. -/
theorem outBlock_eq (h : Layout.Tiles (Blk 128) (Blk 1024) 0 8) (w : FVec Ideal (Blk 1024) .bf16) (hw : FTy.bf16.bits < FTy.f32.bits)
    (c : Fin 8) :
    outBlock (fun d => Layout.block (Blk 128) (Blk 1024) 0 8 d w h) c
      = Layout.block (Blk 128) (Blk 1024) 0 8 c
          (Host.sort (Blk 1024) 0 (Cert.ReferenceIdeal.comparator_f32_d0 (F := Ideal)) (extf .f32 w hw)) h := by
  funext y
  have e := allSorted_eq_sort _ comparator_eq (fun d => Layout.block (Blk 128) (Blk 1024) 0 8 d w h)
    (ix 1024 (128 * c.val + row y) (col y))
  rw [lvl0_block] at e
  show allSorted _ (ix 1024 (128 * c.val + row y) (col y)) = Host.sort _ _ _ _ (h.idx c y)
  rw [block_idx]
  exact e

end Cert.Bitonic

end
-- ==== Proof.lean ====
/- The claims: the kernel runs and leaves every semaphore at zero, at both float instances; the reference runs;
   the kernel read at exact arithmetic is the kernel itself; and in exact arithmetic each device's result is its
   block of the sorted array. -/
module

public import proofs.«01_k».proof.Defs
public import proofs.«01_k».proof.Proof.KernelLaunch
public import proofs.«01_k».proof.Proof.KernelIdealLaunch
public import proofs.«01_k».proof.Proof.Result
public import proofs.«01_k».proof.Proof.Gen.ReferenceIdeal
public import proofs.«01_k».proof.Proof.Gen.ReferenceIdeal.Run

@[expose] public section

noncomputable section

namespace Cert.Proof

open Idealize.ShloMosaic Idealize.SL.Sem

theorem quiet_kernel : Cert.quiescent_Kernel (hKernel := Cert.Kernel.Gen.facts) := fun m g _ => Cert.Kernel.Run.quiet m g

theorem quiet_ideal : Cert.quiescent_KernelIdeal (hKernelIdeal := Cert.KernelIdeal.Gen.facts) := fun m g _ => Cert.KernelIdeal.Run.quiet m g

/-- The reference has no semaphore to leave. -/
theorem quiet_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

/-- From blocks of one array to blocks of the sorted array. -/
theorem algebraic : Cert.algebraic_KernelIdeal_ReferenceIdeal (hKernelIdeal := Cert.KernelIdeal.Gen.facts)
    (hReferenceIdeal := Cert.ReferenceIdeal.Gen.facts) := fun m g m' g' _ hm => by
  refine ⟨_, (θ_run Cert.KernelIdeal.defs _ _).mono (fun _ h c => ⟨(h c).1.trans ?_, (h c).2⟩) (Cert.KernelIdeal.Run.value m g),
    (θ_run Cert.ReferenceIdeal.defs _ _).mono (fun _ h => h 0) (Cert.ReferenceIdeal.Value.run m' g')⟩
  rw [show Cert.KernelIdeal.Run.rowsAt m = fun d => _ from funext hm]
  exact Cert.Bitonic.outBlock_eq _ _ _ c

theorem claim : Cert.Claim :=
  ⟨Cert.Kernel.Gen.facts, Cert.KernelIdeal.Gen.facts, Cert.ReferenceIdeal.Gen.facts, quiet_kernel, quiet_ideal, quiet_reference, trivial, algebraic⟩

end Cert.Proof

end
